-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x1024 : Shape := ⟨3, ![1, 2048, 1024]⟩
abbrev S1024x1024 : Shape := ⟨2, ![1024, 1024]⟩
abbrev S_ : Shape := ⟨0, ![]⟩

class Facts : Prop where
  bcast_S_S1x2048x1024 : S_.BroadcastsInDim S1x2048x1024 (![] : Fin 0 → Fin S1x2048x1024.rank)
  bcast_S_S1024x1024 : S_.BroadcastsInDim S1024x1024 (![] : Fin 0 → Fin S1024x1024.rank)

variable [Facts]

def fn {F : FTy → Type} [FloatOps F] (main_arg0 : FVec F S1x2048x1024 .f32) (main_arg1 : FVec F S1024x1024 .f32) (main_arg2 : FVec F S1024x1024 .f32) (main_arg3 : FVec F S1024x1024 .f32) (main_arg4 : FVec F S1024x1024 .f32) : IVec S1x2048x1024 1 × IVec S1024x1024 1 × IVec S1024x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  (main_v2, main_v5, main_v8)
-- ==== Kernel.lean ====
abbrev S1x2048x1024 : Shape := ⟨3, ![1, 2048, 1024]⟩
abbrev S1024x1024 : Shape := ⟨2, ![1024, 1024]⟩
abbrev S2048x1024 : Shape := ⟨2, ![2048, 1024]⟩
abbrev S256x1024 : Shape := ⟨2, ![256, 1024]⟩
abbrev S512x1024 : Shape := ⟨2, ![512, 1024]⟩
abbrev S256x512 : Shape := ⟨2, ![256, 512]⟩
abbrev S2048x128 : Shape := ⟨2, ![2048, 128]⟩
abbrev S2048x8 : Shape := ⟨2, ![2048, 8]⟩
abbrev S1024x8 : Shape := ⟨2, ![1024, 8]⟩
abbrev S8x128 : Shape := ⟨2, ![8, 128]⟩
abbrev S1024x128 : Shape := ⟨2, ![1024, 128]⟩
abbrev S128x128 : Shape := ⟨2, ![128, 128]⟩
abbrev S2048x16x8 : Shape := ⟨3, ![2048, 16, 8]⟩
abbrev S16x2048x8 : Shape := ⟨3, ![16, 2048, 8]⟩
abbrev S2x2048x8 : Shape := ⟨3, ![2, 2048, 8]⟩
abbrev S256x256 : Shape := ⟨2, ![256, 256]⟩
abbrev S2048x64 : Shape := ⟨2, ![2048, 64]⟩
abbrev S1x2048x8 : Shape := ⟨3, ![1, 2048, 8]⟩
abbrev S64 : Shape := ⟨1, ![64]⟩
abbrev S1x64 : Shape := ⟨2, ![1, 64]⟩
abbrev S256x64 : Shape := ⟨2, ![256, 64]⟩
abbrev S256x1 : Shape := ⟨2, ![256, 1]⟩
abbrev S256 : Shape := ⟨1, ![256]⟩

abbrev nBuf : Space → Nat
  | .hbm => 15
  | .vmem => 37
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x128, .f32⟩
  | .hbm, ⟨10, _⟩ => ⟨S2048x16x8, .f32⟩
  | .hbm, ⟨11, _⟩ => ⟨S16x2048x8, .f32⟩
  | .hbm, ⟨12, _⟩ => ⟨S2048x1024, .f32⟩
  | .hbm, ⟨13, _⟩ => ⟨S2048x1024, .f32⟩
  | .hbm, ⟨14, _⟩ => ⟨S1x2048x1024, .f32⟩
  | .local _ .vmem, ⟨0, _⟩ => ⟨S256x1024, .f32⟩
  | .local _ .vmem, ⟨1, _⟩ => ⟨S256x1024, .f32⟩
  | .local _ .vmem, ⟨2, _⟩ => ⟨S512x1024, .f32⟩
  | .local _ .vmem, ⟨3, _⟩ => ⟨S512x1024, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S512x1024, .f32⟩
  | .local _ .vmem, ⟨9, _⟩ => ⟨S512x1024, .f32⟩
  | .local _ .vmem, ⟨10, _⟩ => ⟨S256x512, .f32⟩
  | .local _ .vmem, ⟨11, _⟩ => ⟨S256x512, .f32⟩
  | .local _ .vmem, ⟨12, _⟩ => ⟨S256x1024, .f32⟩
  | .local _ .vmem, ⟨13, _⟩ => ⟨S256x1024, .f32⟩
  | .local _ .vmem, ⟨14, _⟩ => ⟨S512x1024, .f32⟩
  | .local _ .vmem, ⟨15, _⟩ => ⟨S512x1024, .f32⟩
  | .local _ .vmem, ⟨16, _⟩ => ⟨S256x512, .f32⟩
  | .local _ .vmem, ⟨17, _⟩ => ⟨S256x512, .f32⟩
  | .local _ .vmem, ⟨18, _⟩ => ⟨S2048x1024, .f32⟩
  | .local _ .vmem, ⟨19, _⟩ => ⟨S2048x1024, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2x2048x8, .f32⟩
  | .local _ .vmem, ⟨28, _⟩ => ⟨S2x2048x8, .f32⟩
  | .local _ .vmem, ⟨29, _⟩ => ⟨S2048x128, .f32⟩
  | .local _ .vmem, ⟨30, _⟩ => ⟨S2048x128, .f32⟩
  | .local _ .vmem, ⟨31, _⟩ => ⟨S256x1024, .f32⟩
  | .local _ .vmem, ⟨32, _⟩ => ⟨S256x1024, .f32⟩
  | .local _ .vmem, ⟨33, _⟩ => ⟨S512x1024, .f32⟩
  | .local _ .vmem, ⟨34, _⟩ => ⟨S512x1024, .f32⟩
  | .local _ .vmem, ⟨35, _⟩ => ⟨S256x512, .f32⟩
  | .local _ .vmem, ⟨36, _⟩ => ⟨S256x512, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc4_stg3_0 : Ref sig .tc := ⟨.vmem, 27, rfl⟩
abbrev cc4_stg3_1 : Ref sig .tc := ⟨.vmem, 28, rfl⟩
abbrev cc4_stg4_0 : Ref sig .tc := ⟨.vmem, 29, rfl⟩
abbrev cc4_stg4_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem1_0 : DmaSem sig := 19
abbrev cc3_sem2_0 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc4_sem3_0 : DmaSem sig := 27
abbrev cc4_sem3_1 : DmaSem sig := 28
abbrev cc4_sem4_0 : DmaSem sig := 29
abbrev cc4_sem4_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S2048x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S2048x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S2048x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2x2048x8 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2048x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨2, ![8, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S256x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S512x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S256x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x1024 : Shape := ⟨2, ![1024, 1024]⟩
abbrev S1x2048x16x64 : Shape := ⟨4, ![1, 2048, 16, 64]⟩
abbrev S1x16x2048x64 : Shape := ⟨4, ![1, 16, 2048, 64]⟩
abbrev S1x16x8x256x64 : Shape := ⟨5, ![1, 16, 8, 256, 64]⟩
abbrev S_ : Shape := ⟨0, ![]⟩
abbrev S1x16x8x64 : Shape := ⟨4, ![1, 16, 8, 64]⟩
abbrev S1x16x2048x8 : Shape := ⟨4, ![1, 16, 2048, 8]⟩
abbrev S1x16x2048x5 : Shape := ⟨4, ![1, 16, 2048, 5]⟩
abbrev S1x16x2048x5x1 : Shape := ⟨5, ![1, 16, 2048, 5, 1]⟩
abbrev S1x1x1x1x8 : Shape := ⟨5, ![1, 1, 1, 1, 8]⟩
abbrev S1x16x2048x5x8 : Shape := ⟨5, ![1, 16, 2048, 5, 8]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S1x16x2048x2048 : Shape := ⟨4, ![1, 16, 2048, 2048]⟩
abbrev S2048x2048 : Shape := ⟨2, ![2048, 2048]⟩
abbrev S1x1x2048x2048 : Shape := ⟨4, ![1, 1, 2048, 2048]⟩
abbrev S1x16x2048 : Shape := ⟨3, ![1, 16, 2048]⟩
abbrev S1x16x2048x1 : Shape := ⟨4, ![1, 16, 2048, 1]⟩

abbrev nBuf : Space → Nat
  | .hbm => 130
  | .vmem => 0
  | .smem => 0
  | _ => 0

abbrev hbmTy0_0 (i : Nat) : BufTy := match i % 128 with
  | 0 => ⟨S1x2048x1024, .f32⟩
  | 1 => ⟨S1024x1024, .f32⟩
  | 2 => ⟨S1024x1024, .f32⟩
  | 3 => ⟨S1024x1024, .f32⟩
  | 4 => ⟨S1024x1024, .f32⟩
  | 5 => ⟨S1024x1024, .f32⟩
  | 6 => ⟨S1x2048x1024, .f32⟩
  | 7 => ⟨S1x2048x16x64, .f32⟩
  | 8 => ⟨S1x16x2048x64, .f32⟩
  | 9 => ⟨S1024x1024, .f32⟩
  | 10 => ⟨S1x2048x1024, .f32⟩
  | 11 => ⟨S1x2048x16x64, .f32⟩
  | 12 => ⟨S1x16x2048x64, .f32⟩
  | 13 => ⟨S1024x1024, .f32⟩
  | 14 => ⟨S1x2048x1024, .f32⟩
  | 15 => ⟨S1x2048x16x64, .f32⟩
  | 16 => ⟨S1x16x2048x64, .f32⟩
  | 17 => ⟨S1x16x8x256x64, .f32⟩
  | 18 => ⟨S_, .f32⟩
  | 19 => ⟨S1x16x8x64, .f32⟩
  | 20 => ⟨S_, .f32⟩
  | 21 => ⟨S1x16x8x64, .f32⟩
  | 22 => ⟨S1x16x8x64, .f32⟩
  | 23 => ⟨S1x16x2048x8, .f32⟩
  | 24 => ⟨S_, .f32⟩
  | 25 => ⟨S1x16x2048x8, .f32⟩
  | 26 => ⟨S1x16x2048x8, .f32⟩
  | 27 => ⟨S1x16x2048x5, .f32⟩
  | 28 => ⟨S1x16x2048x5, .i32⟩
  | 29 => ⟨S1x16x2048x5x1, .i32⟩
  | 30 => ⟨S1x1x1x1x8, .i32⟩
  | 31 => ⟨S1x16x2048x5x8, .i32⟩
  | 32 => ⟨S1x16x2048x5x8, .i32⟩
  | 33 => ⟨S1x16x2048x5x8, .i1⟩
  | 34 => ⟨S1x16x2048x5x8, .f32⟩
  | 35 => ⟨S_, .f32⟩
  | 36 => ⟨S1x16x2048x8, .f32⟩
  | 37 => ⟨S_, .f32⟩
  | 38 => ⟨S1x16x2048x8, .f32⟩
  | 39 => ⟨S1x16x2048x8, .i1⟩
  | 40 => ⟨S2048, .i32⟩
  | 41 => ⟨S_, .i32⟩
  | 42 => ⟨S_, .i32⟩
  | 43 => ⟨S2048, .i32⟩
  | 44 => ⟨S2048, .i32⟩
  | 45 => ⟨S2048, .i32⟩
  | 46 => ⟨S_, .i32⟩
  | 47 => ⟨S2048, .i32⟩
  | 48 => ⟨S2048, .i1⟩
  | 49 => ⟨S2048, .i32⟩
  | 50 => ⟨S2048, .i32⟩
  | 51 => ⟨S_, .i32⟩
  | 52 => ⟨S2048, .i32⟩
  | 53 => ⟨S2048, .i1⟩
  | 54 => ⟨S2048, .i1⟩
  | 55 => ⟨S_, .i32⟩
  | 56 => ⟨S2048, .i32⟩
  | 57 => ⟨S2048, .i32⟩
  | 58 => ⟨S2048, .i32⟩
  | 59 => ⟨S_, .i32⟩
  | 60 => ⟨S2048, .i32⟩
  | 61 => ⟨S2048, .i1⟩
  | 62 => ⟨S_, .i32⟩
  | 63 => ⟨S2048, .i32⟩
  | 64 => ⟨S2048, .i32⟩
  | 65 => ⟨S2048, .i32⟩
  | 66 => ⟨S2048x1, .i32⟩
  | 67 => ⟨S1, .i32⟩
  | 68 => ⟨S_, .i32⟩
  | 69 => ⟨S2048x1, .i32⟩
  | 70 => ⟨S2048x1, .i1⟩
  | 71 => ⟨S1x1, .i32⟩
  | 72 => ⟨S2048x1, .i32⟩
  | 73 => ⟨S2048x1, .i1⟩
  | 74 => ⟨S2048x1, .i1⟩
  | 75 => ⟨S_, .i1⟩
  | 76 => ⟨S2048, .i1⟩
  | 77 => ⟨S1x16x2048x2048, .i1⟩
  | 78 => ⟨S1x16x2048x2048, .i1⟩
  | 79 => ⟨S_, .i1⟩
  | 80 => ⟨S1x16x2048x2048, .i1⟩
  | 81 => ⟨S1x16x2048x2048, .i1⟩
  | 82 => ⟨S_, .i1⟩
  | 83 => ⟨S2048x2048, .i1⟩
  | 84 => ⟨S2048x2048, .i32⟩
  | 85 => ⟨S_, .i32⟩
  | 86 => ⟨S2048x2048, .i32⟩
  | 87 => ⟨S2048x2048, .i32⟩
  | 88 => ⟨S2048x2048, .i32⟩
  | 89 => ⟨S2048x2048, .i1⟩
  | 90 => ⟨S_, .i1⟩
  | 91 => ⟨S2048x2048, .i1⟩
  | 92 => ⟨S2048x2048, .i1⟩
  | 93 => ⟨S1x1x2048x2048, .i1⟩
  | 94 => ⟨S1x16x2048x2048, .i1⟩
  | 95 => ⟨S1x16x2048x2048, .i1⟩
  | 96 => ⟨S1x16x2048x2048, .f32⟩
  | 97 => ⟨S_, .f32⟩
  | 98 => ⟨S1x16x2048x2048, .f32⟩
  | 99 => ⟨S1x16x2048x2048, .f32⟩
  | 100 => ⟨S_, .f32⟩
  | 101 => ⟨S_, .f32⟩
  | 102 => ⟨S1x16x2048x2048, .f32⟩
  | 103 => ⟨S1x16x2048x2048, .f32⟩
  | 104 => ⟨S_, .f32⟩
  | 105 => ⟨S1x16x2048, .f32⟩
  | 106 => ⟨S_, .f32⟩
  | 107 => ⟨S1x16x2048, .f32⟩
  | 108 => ⟨S1x16x2048, .f32⟩
  | 109 => ⟨S1x16x2048x1, .f32⟩
  | 110 => ⟨S1x16x2048x2048, .f32⟩
  | 111 => ⟨S1x16x2048x2048, .f32⟩
  | 112 => ⟨S1x16x2048x2048, .f32⟩
  | 113 => ⟨S_, .f32⟩
  | 114 => ⟨S1x16x2048, .f32⟩
  | 115 => ⟨S1x16x2048x1, .f32⟩
  | 116 => ⟨S1x16x2048x2048, .f32⟩
  | 117 => ⟨S1x16x2048x2048, .f32⟩
  | 118 => ⟨S_, .i1⟩
  | 119 => ⟨S1x16x2048, .i1⟩
  | 120 => ⟨S1x16x2048x1, .i1⟩
  | 121 => ⟨S_, .f32⟩
  | 122 => ⟨S1x16x2048x2048, .i1⟩
  | 123 => ⟨S1x16x2048x2048, .f32⟩
  | 124 => ⟨S1x16x2048x2048, .f32⟩
  | 125 => ⟨S1x16x2048x64, .f32⟩
  | 126 => ⟨S1x2048x16x64, .f32⟩
  | 127 => ⟨S1x2048x1024, .f32⟩
  | _ => ⟨S1x2048x1024, .f32⟩

abbrev hbmTy0_1 (i : Nat) : BufTy := match i % 128 with
  | 0 => ⟨S1024x1024, .f32⟩
  | 1 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_values : Ref sig .tc := ⟨.hbm, 27, rfl⟩
abbrev main_indices : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_c : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_v24 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_c_4 : Ref sig .tc := ⟨.hbm, 79, rfl⟩
abbrev main_call2_v15 : Ref sig .tc := ⟨.hbm, 80, rfl⟩
abbrev main_v25 : Ref sig .tc := ⟨.hbm, 81, rfl⟩
abbrev main_c_4 : Ref sig .tc := ⟨.hbm, 82, rfl⟩
abbrev main_v26 : Ref sig .tc := ⟨.hbm, 83, rfl⟩
abbrev main_call3_v0 : Ref sig .tc := ⟨.hbm, 84, rfl⟩
abbrev main_call3_c : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_c_0 : Ref sig .tc := ⟨.hbm, 90, rfl⟩
abbrev main_call3_v5 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_cst_5 : Ref sig .tc := ⟨.hbm, 97, rfl⟩
abbrev main_v32 : Ref sig .tc := ⟨.hbm, 98, rfl⟩
abbrev main_v33 : Ref sig .tc := ⟨.hbm, 99, rfl⟩
abbrev main_cst_6 : Ref sig .tc := ⟨.hbm, 100, rfl⟩
abbrev main_call4_v0 : Ref sig .tc := ⟨.hbm, 101, rfl⟩
abbrev main_call4_v1 : Ref sig .tc := ⟨.hbm, 102, rfl⟩
abbrev main_v34 : Ref sig .tc := ⟨.hbm, 103, rfl⟩
abbrev main_cst_7 : Ref sig .tc := ⟨.hbm, 104, rfl⟩
abbrev main_v35 : Ref sig .tc := ⟨.hbm, 105, rfl⟩
abbrev main_cst_8 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_cst_9 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_c_10 : Ref sig .tc := ⟨.hbm, 118, rfl⟩
abbrev main_v46 : Ref sig .tc := ⟨.hbm, 119, rfl⟩
abbrev main_v47 : Ref sig .tc := ⟨.hbm, 120, rfl⟩
abbrev main_cst_11 : Ref sig .tc := ⟨.hbm, 121, rfl⟩
abbrev main_call5_v0 : Ref sig .tc := ⟨.hbm, 122, rfl⟩
abbrev main_call5_v1 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩

abbrev nD : Nat := 1
abbrev τ : Topo := Topo.v7x

variable {F : FTy → Type} [FloatOps F]
-- ==== Proof.Run.lean ====
/- The kernel's run: every execution ends with the result at the boundary contents after the last operation and the
   arguments as launched. The launch is the frame's, its final state read at one buffer more. -/
module

public import proofs.«01_k».proof.Proof.Gen.KernelIdeal.Frame

@[expose] public section

set_option maxRecDepth 16384

noncomputable section

namespace Cert.KernelIdeal.Value

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result at the last boundary's contents and the arguments as launched. -/
theorem run : θ_run defs (onTc (τ := τ) (main (F := F))) ⟨m, fun _ => 0, ρ⟩ (fun r => ∀ c : Dev nD,
      r.2.mem ((c.tc : Thread nD τ).loc main_v9) = W9 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      ⟨h c _ (mem_uc main_v9 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c)⟩)

end Cert.KernelIdeal.Value

end
-- ==== Proof.AttnForm.lean ====
/- The attention call's stored value, written over the chunk number: the printed body is the same computation for
   eight query chunks and two heads, spelt out; here it is stated once. -/
module

public import proofs.«01_k».proof.Proof.Gen.KernelIdeal.Frame

@[expose] public section

set_option maxRecDepth 16384

noncomputable section

namespace Cert.KernelIdeal.Attn

open Idealize.ShloMosaic Cert.KernelIdeal Cert.KernelIdeal.Gen

variable {F : FTy → Type} [FloatOps F] [Named F]

/-- Rows `256 n …` of a [2048, 64] array are inside it. -/
theorem rows_in (n : ℕ) : S2048x64.Slices ![256 * (n % 8), 0] S256x64 := by
  refine ⟨rfl, fun a => ?_⟩
  have := Nat.mod_lt n (show 0 < 8 by decide)
  match a with
  | ⟨0, _⟩ => show 256 * (n % 8) + 256 ≤ 2048; omega
  | ⟨1, _⟩ => show 0 + 64 ≤ 64; omega

/-- Rows `256 a …`, column `b` of a [2048, 8] array are inside it. -/
theorem bias_in (a b : ℕ) : S2048x8.Slices ![256 * (a % 8), b % 8] S256x1 := by
  refine ⟨rfl, fun x => ?_⟩
  have := Nat.mod_lt a (show 0 < 8 by decide)
  have := Nat.mod_lt b (show 0 < 8 by decide)
  match x with
  | ⟨0, _⟩ => show 256 * (a % 8) + 256 ≤ 2048; omega
  | ⟨1, _⟩ => show b % 8 + 1 ≤ 8; omega

/-- Chunk `n` of an array's rows. -/
def chunk (X : FVec F S2048x64 .bf16) (n : ℕ) : FVec F S256x64 .bf16 :=
  extractStridedSlice S256x64 ![256 * (n % 8), 0] X (rows_in n)

/-- The bias of key chunk `b` at the rows of query chunk `a`. -/
def bcol (B : FVec F S2048x8 .f32) (a b : ℕ) : FVec F S256x1 .f32 :=
  extractStridedSlice S256x1 ![256 * (a % 8), b % 8] B (bias_in a b)

section Chunk

variable (cb : FVec F S256x256 .f32) (Q K V : FVec F S2048x64 .bf16) (B : FVec F S2048x8 .f32) (a : ℕ)

/-- The products of query chunk `a` with key chunk `b`. -/
def prods (b : ℕ) : FVec F S256x256 .f32 :=
  matmul dot_S256x64_S256x64_S256x256_1_1_0_0_n_n none (chunk Q a) (chunk K b) (constant S256x256 .f32 0x00000000#32)

/-- The scores of query chunk `a` against key chunk `b`, the causal bias added on the diagonal. -/
def score (b : ℕ) : FVec F S256x256 .f32 :=
  bif Nat.beq a b then addf (prods Q K a b) cb else prods Q K a b

/-- Each row's greatest score against key chunk `b`, the chunk's bias added. -/
def rowMax (b : ℕ) : FVec F S256x1 .f32 :=
  addf (shapeCast S256x1 (multiReduction .maximumf [1] S256 (score cb Q K a b) 0xFF800000#32 reduces_S256x256_S256 (.inl rfl) rfl)
    shapeCasts_S256_S256x1) (bcol B a b)

/-- A binary operation along the values at `0 … n`, first to last. -/
def along {α : Type} (op : α → α → α) (f : ℕ → α) : ℕ → α
  | 0 => f 0
  | n + 1 => op (along op f n) (f (n + 1))

/-- Each row's greatest biased score over the chunks up to its own. -/
def top : FVec F S256x1 .f32 := along maximumf (rowMax cb Q K B a) a

/-- The weights of key chunk `b`. -/
def weight (b : ℕ) : FVec F S256x256 .f32 :=
  exp (subf (score cb Q K a b) (broadcastTo S256x256 (subf (top cb Q K B a) (bcol B a b)) broadcasts_S256x1_S256x256))

/-- The weighted values of key chunk `b`. -/
def mixed (b : ℕ) : FVec F S256x64 .f32 :=
  matmul dot_S256x256_S256x64_S256x64_1_0_0_1_n_n none (truncf .bf16 (weight cb Q K B a b) bitsLt_bf16_f32) (chunk V b)
    (constant S256x64 .f32 0x00000000#32)

/-- The sum of the weights of key chunk `b`. -/
def mass (b : ℕ) : FVec F S256x1 .f32 :=
  shapeCast S256x1 (multiReduction .add [1] S256 (weight cb Q K B a b) 0x00000000#32 reduces_S256x256_S256 (.inl rfl) rfl)
    shapeCasts_S256_S256x1

/-- Whether key chunk `b` is selected. -/
def chosen (b : ℕ) : IVec S256x1 1 :=
  cmpf .ogt (bcol B a b) (broadcast S256x1 (Scalar.ofBits .f32 0xBF000000#32))

/-- The output rows of query chunk `a`. -/
def outRows (mv : FVec F S1x64 .f32) : FVec F S256x64 .f32 :=
  select (broadcastTo S256x64 (shapeCast S256x1 (along ori (chosen B a) a) shapeCasts_S256x1_S256x1) broadcasts_S256x1_S256x64)
    (divf (along addf (mixed cb Q K V B a) a) (broadcastTo S256x64 (along addf (mass cb Q K B a) a) broadcasts_S256x1_S256x64))
    (broadcastTo S256x64 (shapeCast S1x64 mv shapeCasts_S1x64_S1x64) broadcasts_S1x64_S256x64)

end Chunk

/-- One head's output rows. -/
def headRows (q k v : Vec F S2048x64 .f32) (b : Vec F S1x2048x8 .f32) : FVec F S2048x64 .f32 :=
  concatenate S2048x64 0 (List.ofFn fun a : Fin 8 => (⟨S256x64, outRows k4_pay2 (k4_pay4 q) (k4_pay5 k) (k4_pay6 v) (k4_pay7 b) a.val (k4_pay8 v)⟩ : (s : Shape) × FVec F s .f32))
    concatenates_S256x64_S256x64_S256x64_S256x64_S256x64_S256x64_S256x64_S256x64_S2048x64_d0

set_option maxHeartbeats 4000000 in
/-- The stored block is the two heads' rows side by side. -/
theorem out_form (x0 x1 x2 : Vec F S2048x128 .f32) (x3 : Vec F S2x2048x8 .f32) :
    out4_4 x0 x1 x2 x3 = View.canon [⟨r4_4, concatenate S2048x128 1
      [⟨S2048x64, headRows (View.ld x0 r4_0) (View.ld x1 r4_0) (View.ld x2 r4_0) (View.ld x3 r4_1)⟩,
       ⟨S2048x64, headRows (View.ld x0 r4_2) (View.ld x1 r4_2) (View.ld x2 r4_2) (View.ld x3 r4_3)⟩]
      concatenates_S2048x64_S2048x64_S2048x128_d1⟩] := by
  rfl

end Cert.KernelIdeal.Attn

end
-- ==== Proof.Spec.lean ====
/- Attention over selected chunks, as mathematics: what one query row of one head is, and the same value taken chunk by
   chunk with one division at the end. -/
module

public import proofs.«01_k».proof.Proof.Gen.KernelIdeal.Frame

@[expose] public section

noncomputable section

namespace Cert.Spec

open Idealize.ShloMosaic
open scoped Classical

/-- Row `s` of chunk `b`. -/
def key (b : ℕ) (s : Fin 256) : Fin 2048 := ⟨256 * (b % 8) + s.val, by omega⟩

/-- The chunk a row lies in. -/
def chunkOf (j : Fin 2048) : Fin 8 := ⟨j.val / 256, by omega⟩

theorem key_chunkOf (j : Fin 2048) : key (chunkOf j).val ⟨j.val % 256, by omega⟩ = j := by
  apply Fin.ext; simp only [key, chunkOf]; omega

theorem chunkOf_key (b : ℕ) (s : Fin 256) : (chunkOf (key b s)).val = b % 8 := by
  simp only [key, chunkOf]; omega

/-- A sum over the rows is the sum over the chunks of the sums over their rows. -/
theorem sum_keys (g : Fin 2048 → EReal) : ∑ j, g j = ∑ b ∈ Finset.range 8, ∑ s, g (key b s) := by
  rw [Finset.sum_range, ← Fintype.sum_prod_type' (f := fun (b : Fin 8) (s : Fin 256) => g (key b.val s))]
  refine (Fintype.sum_equiv ⟨fun p => key p.1.val p.2, fun j => (chunkOf j, ⟨j.val % 256, by omega⟩), ?_, ?_⟩ _ _ ?_).symm
  · rintro ⟨b, s⟩
    have hb := b.isLt
    have hs := s.isLt
    refine Prod.ext (Fin.ext ?_) (Fin.ext ?_) <;> simp only [key, chunkOf] <;> omega
  · exact fun j => key_chunkOf j
  · intro p; rfl

/-- A query may look at the keys of its selected chunks that do not come after it. -/
def allowed (sel : Fin 8 → Prop) (i j : Fin 2048) : Prop := sel (chunkOf j) ∧ j ≤ i

section Row

variable (T : Fin 2048 → EReal) (sel : Fin 8 → Prop) (v : Fin 2048 → EReal) (i : Fin 2048)

/-- The scores, minus infinity where the query may not look. -/
def masked (j : Fin 2048) : EReal := if allowed sel i j then T j else ⊥

/-- The greatest score. -/
def peak : EReal := Finset.univ.sup (masked T sel i)

/-- The exponential of a score's distance to the greatest. -/
def expo (j : Fin 2048) : EReal := Ideal.exp (masked T sel i j - peak T sel i)

/-- The weights: the softmax, uniform when no key is allowed. -/
def share (j : Fin 2048) : EReal :=
  if ∃ j, allowed sel i j then Ideal.div (expo T sel i j) (∑ j, expo T sel i j) else ((1 / 2048 : ℝ) : EReal)

/-- One entry of the attention's row `i`. -/
def att : EReal := ∑ j, share T sel i j * v j

end Row

/-- A real factor at least zero is taken out of a sum. -/
theorem sum_mul_real {ι : Type} (s : Finset ι) (f : ι → EReal) (c : ℝ) (hc : 0 ≤ c) :
    (∑ j ∈ s, f j) * (c : EReal) = ∑ j ∈ s, f j * (c : EReal) := by
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

section Facts

variable (t : Fin 2048 → ℝ) (sel : Fin 8 → Prop) (v : Fin 2048 → EReal) (i : Fin 2048)

local notation "T" => (fun j => ((t j : ℝ) : EReal))

theorem peak_real (h : ∃ j, allowed sel i j) : ∃ M : ℝ, peak T sel i = (M : EReal) := by
  obtain ⟨j, hj⟩ := h
  have h1 : peak T sel i ≠ ⊥ := by
    intro e
    have : masked T sel i j ≤ peak T sel i := Finset.le_sup (f := masked T sel i) (Finset.mem_univ j)
    rw [e, masked, if_pos hj] at this
    exact absurd (le_bot_iff.1 this) (EReal.coe_ne_bot _)
  have h2 : peak T sel i ≠ ⊤ := by
    apply ne_of_lt
    rw [peak, Finset.sup_lt_iff (by simp)]
    intro j _
    unfold masked
    split
    · exact EReal.coe_lt_top _
    · simp
  exact ⟨_, (EReal.coe_toReal h2 h1).symm⟩

theorem expo_real (h : ∃ j, allowed sel i j) (j : Fin 2048) :
    ∃ e : ℝ, expo T sel i j = (e : EReal) ∧ 0 ≤ e ∧ (allowed sel i j → 0 < e) ∧ (¬ allowed sel i j → e = 0) := by
  obtain ⟨M, hM⟩ := peak_real t sel i h
  unfold expo
  rw [hM, masked]
  split
  · rename_i hj
    refine ⟨Real.exp (t j - M), ?_, (Real.exp_pos _).le, fun _ => Real.exp_pos _, fun hn => absurd hj hn⟩
    rw [← EReal.coe_sub, Ideal.exp_coe]
  · rename_i hj
    refine ⟨0, ?_, le_rfl, fun hn => absurd hn hj, fun _ => rfl⟩
    rw [EReal.bot_sub, Ideal.exp_bot]; rfl

/-- With a key allowed, one division at the end is the softmax. -/
theorem att_eq_div (h : ∃ j, allowed sel i j) :
    att T sel v i = Ideal.div (∑ j, expo T sel i j * v j) (∑ j, expo T sel i j) := by
  choose e he h0 hp _ using expo_real t sel i h
  have hD : ∑ j, expo T sel i j = ((∑ j, e j : ℝ) : EReal) := by
    simp only [he]
    exact (map_sum (⟨⟨Real.toEReal, rfl⟩, EReal.coe_add⟩ : ℝ →+ EReal) e Finset.univ).symm
  have hpos : 0 < ∑ j, e j := by
    obtain ⟨j, hj⟩ := h
    exact Finset.sum_pos' (fun j _ => h0 j) ⟨j, Finset.mem_univ j, hp j hj⟩
  unfold att share
  simp only [if_pos h, hD]
  simp only [Ideal.div_coe hpos.ne']
  rw [sum_mul_real _ _ _ (by positivity)]
  exact Finset.sum_congr rfl fun j _ => by rw [mul_right_comm]

/-- With no key allowed, the row is the mean of the values. -/
theorem att_eq_mean (h : ¬ ∃ j, allowed sel i j) :
    att T sel v i = (∑ j, v j) * ((1 / 2048 : ℝ) : EReal) := by
  unfold att share
  simp only [if_neg h]
  rw [sum_mul_real _ _ _ (by norm_num)]
  exact Finset.sum_congr rfl fun j _ => mul_comm _ _

end Facts

section Chunks

variable (t : Fin 2048 → ℝ) (sel : Fin 8 → Prop) (v : Fin 2048 → EReal) (a : ℕ) (r : Fin 256)
  (score : ℕ → Fin 256 → EReal) (bias : ℕ → EReal)

local notation "T" => (fun j => ((t j : ℝ) : EReal))

/-- A key of a chunk up to the query's own comes no later unless it is a later row of the query's chunk. -/
theorem key_le {b : ℕ} (ha : a < 8) (hb : b ≤ a) (s : Fin 256) : key b s ≤ key a r ↔ ¬ (a = b ∧ r < s) := by
  simp only [key, Fin.le_def, Fin.lt_def]; omega

/-- The biased greatest scores over the chunks up to the query's own give the greatest masked score. -/
theorem peak_chunks (ha : a < 8) (hs : ∀ b ≤ a, ∀ s, score b s = (t (key b s) : EReal) + (if a = b ∧ r < s then ⊥ else 0))
    (hb : ∀ b ≤ a, bias b = if sel (chunkOf (key b 0)) then 0 else ⊥) :
    ((Finset.range (a + 1)).sup fun b => Finset.univ.sup (score b) + bias b) = peak T sel (key a r) := by
  have hc : ∀ b s, chunkOf (key b s) = chunkOf (key b 0) := fun b s =>
    Fin.ext ((chunkOf_key b s).trans (chunkOf_key b 0).symm)
  have key1 : ∀ b ≤ a, Finset.univ.sup (score b) + bias b = Finset.univ.sup (fun s => masked T sel (key a r) (key b s)) := by
    intro b hba
    by_cases hsel : sel (chunkOf (key b 0))
    · rw [hb b hba, if_pos hsel, add_zero]
      refine Finset.sup_congr rfl fun s _ => ?_
      rw [hs b hba, masked, allowed, hc, key_le a r ha hba]
      by_cases hd : a = b ∧ r < s
      · rw [if_pos hd, if_neg (fun h => h.2 hd), EReal.add_bot]
      · rw [if_neg hd, if_pos ⟨hsel, hd⟩, add_zero]
    · rw [hb b hba, if_neg hsel, EReal.add_bot]
      refine ((Finset.sup_eq_bot_iff _ _).2 fun s _ => ?_).symm
      rw [masked, allowed, hc, if_neg (fun h => hsel h.1)]
  rw [Finset.sup_congr rfl (fun b hba => key1 b (Nat.lt_succ_iff.1 (Finset.mem_range.1 hba)))]
  apply le_antisymm
  · exact Finset.sup_le fun b _ => Finset.sup_le fun s _ => Finset.le_sup (f := masked T sel (key a r)) (Finset.mem_univ _)
  · refine Finset.sup_le fun j _ => ?_
    by_cases hj : (chunkOf j).val ≤ a
    · have h1 := Finset.le_sup (f := fun s => masked T sel (key a r) (key (chunkOf j).val s)) (Finset.mem_univ (⟨j.val % 256, by omega⟩ : Fin 256))
      have h2 := Finset.le_sup (f := fun b => Finset.univ.sup (fun s => masked T sel (key a r) (key b s))) (Finset.mem_range.2 (Nat.lt_succ_iff.2 hj))
      refine le_trans (le_of_eq ?_) (h1.trans h2)
      rw [key_chunkOf]
    · rw [masked, if_neg]
      · exact bot_le
      · rintro ⟨-, h⟩
        apply hj
        simp only [key, Fin.le_def, chunkOf] at h ⊢
        omega

/-- A chunk's weight is the exponential of its key's distance to the greatest score. -/
theorem weight_chunks (ha : a < 8) (hs : ∀ b ≤ a, ∀ s, score b s = (t (key b s) : EReal) + (if a = b ∧ r < s then ⊥ else 0))
    (hb : ∀ b ≤ a, bias b = if sel (chunkOf (key b 0)) then 0 else ⊥) (h : ∃ j, allowed sel (key a r) j)
    (b : ℕ) (hba : b ≤ a) (s : Fin 256) :
    Ideal.exp (score b s - (peak T sel (key a r) - bias b)) = expo T sel (key a r) (key b s) := by
  obtain ⟨M, hM⟩ := peak_real t sel (key a r) h
  have hc : chunkOf (key b s) = chunkOf (key b 0) := Fin.ext ((chunkOf_key b s).trans (chunkOf_key b 0).symm)
  unfold expo
  rw [hM, hs b hba, hb b hba, masked, allowed, hc, key_le a r ha hba]
  by_cases hsel : sel (chunkOf (key b 0))
  · rw [if_pos hsel, sub_zero]
    by_cases hd : a = b ∧ r < s
    · rw [if_pos hd, if_neg (fun h => h.2 hd), EReal.add_bot]
    · rw [if_neg hd, if_pos ⟨hsel, hd⟩, add_zero]
  · rw [if_neg hsel, if_neg (show ¬(sel (chunkOf (key b 0)) ∧ ¬(a = b ∧ r < s)) from fun h => hsel h.1)]
    have : (M : EReal) - ⊥ = ⊤ := by rw [sub_eq_add_neg, EReal.neg_bot, EReal.coe_add_top]
    rw [this, sub_eq_add_neg, EReal.neg_top, EReal.add_bot, EReal.bot_sub]

/-- Some chunk up to the query's own is selected just when some key is allowed. -/
theorem chosen_chunks (ha : a < 8) (hb : ∀ b ≤ a, bias b = if sel (chunkOf (key b 0)) then 0 else ⊥) (c : ℝ) (hc0 : c < 0) :
    (∃ b ≤ a, (c : EReal) < bias b) ↔ ∃ j, allowed sel (key a r) j := by
  constructor
  · rintro ⟨b, hba, hlt⟩
    rw [hb b hba] at hlt
    by_cases hsel : sel (chunkOf (key b 0))
    · refine ⟨key b 0, hsel, (key_le a r ha hba 0).2 fun h => ?_⟩
      exact absurd h.2 (by simp [Fin.lt_def])
    · rw [if_neg hsel] at hlt
      exact absurd hlt not_lt_bot
  · rintro ⟨j, hsel, hle⟩
    have hja : (chunkOf j).val ≤ a := by
      simp only [key, Fin.le_def, chunkOf] at hle ⊢; omega
    refine ⟨(chunkOf j).val, hja, ?_⟩
    have : chunkOf (key (chunkOf j).val 0) = chunkOf j := Fin.ext (by rw [chunkOf_key]; have := (chunkOf j).isLt; omega)
    rw [hb _ hja, this, if_pos hsel]
    exact_mod_cast hc0

/-- A sum over the chunks up to the query's own is the sum over all rows, the later ones adding nothing. -/
theorem sum_chunks (ha : a < 8) (g : Fin 2048 → EReal) (hg : ∀ j, ¬ j ≤ key a 255 → g j = 0) :
    ∑ b ∈ Finset.range (a + 1), ∑ s, g (key b s) = ∑ j, g j := by
  rw [sum_keys]
  refine Finset.sum_subset (fun b h => Finset.mem_range.2 (by have := Finset.mem_range.1 h; omega)) fun b h8 hb => ?_
  refine Finset.sum_eq_zero fun s _ => hg _ fun h => hb ?_
  rw [Finset.mem_range] at h8 ⊢
  simp only [key, Fin.le_def] at h
  have : ((255 : Fin 256) : ℕ) = 255 := rfl
  omega

/-- The row taken chunk by chunk. -/
theorem chunks_eq_att (ha : a < 8) (hs : ∀ b ≤ a, ∀ s, score b s = (t (key b s) : EReal) + (if a = b ∧ r < s then ⊥ else 0))
    (hb : ∀ b ≤ a, bias b = if sel (chunkOf (key b 0)) then 0 else ⊥) (c : ℝ) (hc0 : c < 0) (top : EReal)
    (htop : top = (Finset.range (a + 1)).sup fun b => Finset.univ.sup (score b) + bias b) :
    (if ∃ b ≤ a, (c : EReal) < bias b then
      Ideal.div (∑ b ∈ Finset.range (a + 1), ∑ s, Ideal.exp (score b s - (top - bias b)) * v (key b s))
        (∑ b ∈ Finset.range (a + 1), ∑ s, Ideal.exp (score b s - (top - bias b)))
      else (∑ j, v j) * ((1 / 2048 : ℝ) : EReal)) = att T sel v (key a r) := by
  rw [htop, peak_chunks t sel a r score bias ha hs hb]
  by_cases h : ∃ j, allowed sel (key a r) j
  · rw [if_pos ((chosen_chunks sel a r bias ha hb c hc0).2 h), att_eq_div t sel v _ h]
    have hz : ∀ j, ¬ j ≤ key a 255 → expo T sel (key a r) j = 0 := by
      intro j hj
      obtain ⟨e, he, -, -, h0⟩ := expo_real t sel (key a r) h j
      rw [he, h0]
      · rfl
      · rintro ⟨-, hle⟩
        apply hj
        refine hle.trans ?_
        simp only [key, Fin.le_def]
        have : ((255 : Fin 256) : ℕ) = 255 := rfl
        omega
    rw [← sum_chunks a ha _ hz, ← sum_chunks a ha (fun j => expo T sel (key a r) j * v j) (fun j hj => by rw [hz j hj, zero_mul])]
    have hw := weight_chunks t sel a r score bias ha hs hb h
    congr 1
    · exact Finset.sum_congr rfl fun b hba => Finset.sum_congr rfl fun s _ => by
        rw [hw b (Nat.lt_succ_iff.1 (Finset.mem_range.1 hba)) s]
    · exact Finset.sum_congr rfl fun b hba => Finset.sum_congr rfl fun s _ => by
        rw [hw b (Nat.lt_succ_iff.1 (Finset.mem_range.1 hba)) s]
  · rw [if_neg (fun h' => h ((chosen_chunks sel a r bias ha hb c hc0).1 h')), att_eq_mean t sel v _ h]

end Chunks

end Cert.Spec

end
-- ==== Proof.AttnValue.lean ====
/- The attention call's rows at an index: each entry of a head's output is the entry of the attention over the selected
   chunks. -/
module

public import proofs.«01_k».proof.Proof.AttnForm
public import proofs.«01_k».proof.Proof.Spec
public import Idealize.ShloMosaic.Lib.MatmulPlain
public import Idealize.ShloMosaic.Lib.ValueLayout
public import Idealize.ShloMosaic.Lib.ValueLayoutCasts
public import Idealize.ShloMosaic.Lib.IdealHost
public import Idealize.ShloMosaic.Lib.WordCmp

@[expose] public section

set_option maxRecDepth 16384

noncomputable section

namespace Cert.KernelIdeal.Attn

open Idealize.ShloMosaic Idealize.ShloMosaic.ValueIdx Cert.KernelIdeal Cert.KernelIdeal.Gen Cert.Spec
open scoped Classical

theorem chunk_apply (X : FVec Ideal S2048x64 .bf16) (n : ℕ) (r : Fin 256) (d : Fin 64) :
    chunk X n (ix2 r d) = X (ix2 (key n r) d) :=
  slice2_axis0_apply _ X _ r d (key n r) rfl

theorem bcol_apply (B : FVec Ideal S2048x8 .f32) (a b : ℕ) (r : Fin 256) (u : Fin 1) :
    bcol B a b (ix2 r u) = B (ix2 (key a r) ⟨b % 8, by omega⟩) :=
  extractStridedSlice_apply _ _ _ _ _ (fun ax => by
    match ax with
    | ⟨0, _⟩ => rfl
    | ⟨1, _⟩ => show b % 8 = b % 8 + u.val; omega)

/-- The causal bias: minus infinity above the diagonal. -/
theorem causal_apply (r s : Fin 256) : (k4_pay2 (F := Ideal)) (ix2 r s) = if r < s then (⊥ : EReal) else 0 := by
  have h : cmpi .sge (iota .tc S256x256 32 [0] iota_S256x256_d0_w32) (iota .tc S256x256 32 [1] iota_S256x256_d1_w32) (ix2 r s)
      = BitVec.ofBool (decide (s.val ≤ r.val)) := by
    show IntOp.cmpi .sge _ _ = _
    rw [iota_single_apply, iota_single_apply]
    exact WordCmp.cmpi_sge_ofNat (by show r.val < _; omega) (by show s.val < _; omega)
  show Scalar.select (cmpi .sge _ _ (ix2 r s)) (Ideal.ofBits .f32 0x00000000#32) (Named.named κ "mask" (φ := .f32) 0xCE6E6B28#32) = _
  rw [h, Ideal.ofBits_zero_f32, show (Named.named κ "mask" (φ := .f32) 0xCE6E6B28#32 : Ideal .f32) = (⊥ : EReal) from
    IdealRules.named_const.ideal_named_scalar _ _ _ _ rfl]
  by_cases hrs : r < s
  · rw [if_pos hrs, decide_eq_false (by simp only [Fin.lt_def] at hrs; omega)]; rfl
  · rw [if_neg hrs, decide_eq_true (by simp only [Fin.lt_def] at hrs; omega)]; rfl

/-- Reading at an index goes under a chain of operations. -/
theorem along_map {α β : Type} (g : α → β) (op : α → α → α) (op' : β → β → β) (h : ∀ x y, g (op x y) = op' (g x) (g y)) (f : ℕ → α) :
    ∀ n, g (along op f n) = along op' (fun b => g (f b)) n
  | 0 => rfl
  | n + 1 => by rw [along, along, h, along_map g op op' h f n]

theorem along_max (f : ℕ → EReal) : ∀ n, along max f n = (Finset.range (n + 1)).sup f
  | 0 => by simp [along]
  | n + 1 => by rw [along, along_max f n, Finset.range_add_one (n := n + 1), Finset.sup_insert, max_comm]

theorem along_add (f : ℕ → EReal) : ∀ n, along (· + ·) f n = ∑ b ∈ Finset.range (n + 1), f b
  | 0 => by simp [along]
  | n + 1 => by rw [along, along_add f n, ← Finset.sum_range_succ]

theorem along_or (f : ℕ → BitVec 1) : ∀ n, along (· ||| ·) f n = 1#1 ↔ ∃ b ≤ n, f b = 1#1
  | 0 => by simp [along]
  | n + 1 => by
    have hor : ∀ x y : BitVec 1, x ||| y = 1#1 ↔ x = 1#1 ∨ y = 1#1 := by decide
    rw [along, hor, along_or f n]
    constructor
    · rintro (⟨b, hb, h⟩ | h)
      · exact ⟨b, by omega, h⟩
      · exact ⟨n + 1, le_rfl, h⟩
    · rintro ⟨b, hb, h⟩
      rcases Nat.lt_or_ge n b with h' | h'
      · exact .inr ((by omega : b = n + 1) ▸ h)
      · exact .inl ⟨b, h', h⟩

section Chunk

variable (Q K V : FVec Ideal S2048x64 .bf16) (B : FVec Ideal S2048x8 .f32) (a : ℕ)

theorem prods_apply (b : ℕ) (r s : Fin 256) :
    prods Q K a b (ix2 r s) = ∑ d : Fin 64, (Q (ix2 (key a r) d) : EReal) * K (ix2 (key b s) d) := by
  unfold prods
  show FloatOps.matmul (DotDims.transposedRhs 256 64 256) none (chunk Q a) (chunk K b) (constant S256x256 .f32 0x00000000#32) (ix2 r s) = _
  rw [Ideal.matmul_transposedRhs_apply, show (constant S256x256 .f32 0x00000000#32 : FVec Ideal S256x256 .f32) (ix2 r s) = (0 : EReal) from
    Ideal.ofBits_zero_f32, zero_add]
  exact Finset.sum_congr rfl fun d _ => by rw [chunk_apply, chunk_apply]

theorem score_apply (b : ℕ) (r s : Fin 256) :
    score k4_pay2 Q K a b (ix2 r s) = (prods Q K a b (ix2 r s) : EReal) + (if a = b ∧ r < s then ⊥ else 0) := by
  unfold score
  by_cases h : a = b
  · rw [show Nat.beq a b = true from h ▸ Nat.beq_refl a]
    show (prods Q K a b (ix2 r s) : EReal) + k4_pay2 (F := Ideal) (ix2 r s) = _
    rw [causal_apply]
    simp only [h, true_and]
  · rw [show Nat.beq a b = false from Bool.eq_false_iff.2 fun e => h (Nat.eq_of_beq_eq_true e), if_neg (fun e => h e.1), add_zero]
    rfl

theorem fold_max {n : ℕ} (f : Fin n → EReal) : (Finset.univ : Finset (Fin n)).fold max ⊥ f = Finset.univ.sup f := rfl

theorem rowMax_apply (b : ℕ) (r : Fin 256) :
    rowMax k4_pay2 Q K B a b (ix2 r 0) = (Finset.univ.sup fun s => (score k4_pay2 Q K a b (ix2 r s) : EReal)) + bcol B a b (ix2 r 0) := by
  unfold rowMax
  show (shapeCast S256x1 _ _ (ix2 r 0) : EReal) + _ = _
  refine congrArg (· + (bcol B a b (ix2 r 0) : EReal)) ?_
  refine (shapeCast_a_a1_apply _ _ r 0).trans ?_
  refine (Ideal.multiReduction_maximumf_single _ _ _ _ _ _).trans ?_
  rw [show (FloatOps.ofBits (F := Ideal) .f32 0xFF800000#32) = (⊥ : EReal) by simp [Ideal.ofBits, Ideal.ieee]]
  refine (fold_max (n := 256) (fun s => score k4_pay2 Q K a b (reduces_S256x256_S256.lift (ix1 r) s))).trans ?_
  exact Finset.sup_congr rfl fun s _ => congrArg (score k4_pay2 Q K a b) (Shape.idx_ext₂ rfl rfl)

theorem top_apply (r : Fin 256) :
    top k4_pay2 Q K B a (ix2 r 0) = (Finset.range (a + 1)).sup fun b =>
      (Finset.univ.sup fun s => (score k4_pay2 Q K a b (ix2 r s) : EReal)) + bcol B a b (ix2 r 0) := by
  unfold top
  rw [along_map (fun x : FVec Ideal S256x1 .f32 => (x (ix2 r 0) : EReal)) maximumf max (fun _ _ => rfl), along_max]
  exact Finset.sup_congr rfl fun b _ => rowMax_apply Q K B a b r

theorem spread_apply {n : ℕ} (x : FVec Ideal S256x1 .f32) (h : S256x1.Broadcasts ⟨2, ![256, n]⟩) (r : Fin 256) (s : Fin n) :
    broadcastTo ⟨2, ![256, n]⟩ x h (ix2 r s) = x (ix2 r 0) :=
  broadcastTo_apply _ _ _ _ fun ax => by
    match ax with
    | ⟨0, _⟩ => rfl
    | ⟨1, _⟩ => rfl

theorem weight_apply (b : ℕ) (r s : Fin 256) :
    weight k4_pay2 Q K B a b (ix2 r s) = Ideal.exp ((score k4_pay2 Q K a b (ix2 r s) : EReal) -
      ((top k4_pay2 Q K B a (ix2 r 0) : EReal) - bcol B a b (ix2 r 0))) := by
  unfold weight
  show Ideal.exp ((score k4_pay2 Q K a b (ix2 r s) : EReal) - broadcastTo S256x256 _ _ (ix2 r s)) = _
  rw [spread_apply]
  rfl

theorem mixed_apply (b : ℕ) (r : Fin 256) (d : Fin 64) :
    mixed k4_pay2 Q K V B a b (ix2 r d) = ∑ s : Fin 256, (weight k4_pay2 Q K B a b (ix2 r s) : EReal) * V (ix2 (key b s) d) := by
  unfold mixed
  show FloatOps.matmul (DotDims.plain 256 256 64) none (truncf .bf16 (weight k4_pay2 Q K B a b) bitsLt_bf16_f32) (chunk V b)
    (constant S256x64 .f32 0x00000000#32) (ix2 r d) = _
  rw [Ideal.matmul_plain_apply, show (constant S256x64 .f32 0x00000000#32 : FVec Ideal S256x64 .f32) (ix2 r d) = (0 : EReal) from
    Ideal.ofBits_zero_f32, zero_add]
  exact Finset.sum_congr rfl fun s _ => by rw [chunk_apply]; rfl

theorem mass_apply (b : ℕ) (r : Fin 256) :
    mass k4_pay2 Q K B a b (ix2 r 0) = ∑ s : Fin 256, (weight k4_pay2 Q K B a b (ix2 r s) : EReal) := by
  unfold mass
  refine (shapeCast_a_a1_apply _ _ r 0).trans ?_
  refine (Ideal.multiReduction_add_single _ _ _ _ _ _).trans ?_
  exact Finset.sum_congr rfl fun s _ => congrArg (weight k4_pay2 Q K B a b) (Shape.idx_ext₂ rfl rfl)

/-- One entry of a query chunk's output. -/
theorem outRows_apply (mv : FVec Ideal S1x64 .f32) (r : Fin 256) (d : Fin 64) :
    outRows k4_pay2 Q K V B a mv (ix2 r d) =
      (if ∃ b ≤ a, ((-(1 / 2) : ℝ) : EReal) < bcol B a b (ix2 r 0) then
        Ideal.div (∑ b ∈ Finset.range (a + 1), mixed k4_pay2 Q K V B a b (ix2 r d)) (∑ b ∈ Finset.range (a + 1), mass k4_pay2 Q K B a b (ix2 r 0))
      else (mv (ix2 0 d) : EReal)) := by
  unfold outRows
  show Scalar.select (broadcastTo S256x64 _ _ (ix2 r d)) (Ideal.div (along addf (mixed k4_pay2 Q K V B a) a (ix2 r d)) (broadcastTo S256x64 _ _ (ix2 r d)))
    (broadcastTo S256x64 _ _ (ix2 r d)) = _
  rw [spread_apply,
    along_map (fun x : FVec Ideal S256x64 .f32 => (x (ix2 r d) : EReal)) addf (· + ·) (fun _ _ => rfl), along_add,
    along_map (fun x : FVec Ideal S256x1 .f32 => (x (ix2 r 0) : EReal)) addf (· + ·) (fun _ _ => rfl), along_add]
  have hsel : broadcastTo S256x64 (shapeCast S256x1 (along ori (chosen B a) a) shapeCasts_S256x1_S256x1) broadcasts_S256x1_S256x64 (ix2 r d)
      = along (· ||| ·) (fun b => chosen B a b (ix2 r 0)) a := by
    rw [shapeCast_self, broadcastTo_apply _ _ _ (ix2 r 0) (fun ax => by
      match ax with
      | ⟨0, _⟩ => rfl
      | ⟨1, _⟩ => rfl)]
    exact along_map (fun x : IVec S256x1 1 => x (ix2 r 0)) ori (· ||| ·) (fun _ _ => rfl) _ _
  have hmv : broadcastTo S256x64 (shapeCast S1x64 mv shapeCasts_S1x64_S1x64) broadcasts_S1x64_S256x64 (ix2 r d) = mv (ix2 0 d) := by
    rw [shapeCast_self]
    exact broadcastTo_apply _ _ _ _ fun ax => by
      match ax with
      | ⟨0, _⟩ => rfl
      | ⟨1, _⟩ => rfl
  have hch : ∀ b, chosen B a b (ix2 r 0) = 1#1 ↔ ((-(1 / 2) : ℝ) : EReal) < bcol B a b (ix2 r 0) := by
    intro b
    have hc : Ideal.ofBits .f32 0xBF000000#32 = ((-(1 / 2) : ℝ) : EReal) := by
      simp [Ideal.ofBits, Ideal.ieee, -EReal.coe_mul]; norm_num
    show Ideal.cmp .ogt (bcol B a b (ix2 r 0)) (Ideal.ofBits .f32 0xBF000000#32) = 1#1 ↔ _
    rw [hc]
    have hob : ∀ p : Bool, BitVec.ofBool p = 1#1 ↔ p = true := by decide
    exact (hob _).trans decide_eq_true_iff
  rw [hsel, hmv]
  by_cases h : ∃ b ≤ a, ((-(1 / 2) : ℝ) : EReal) < bcol B a b (ix2 r 0)
  · rw [if_pos h, (along_or _ a).2 (h.imp fun b hb => ⟨hb.1, (hch b).2 hb.2⟩)]
    rfl
  · have : along (· ||| ·) (fun b => chosen B a b (ix2 r 0)) a ≠ 1#1 := fun e =>
      h (((along_or _ a).1 e).imp fun b hb => ⟨hb.1, (hch b).1 hb.2⟩)
    rw [if_neg h]
    exact if_neg this

end Chunk

/-- One entry of a head's output is the attention's. -/
theorem headRows_apply (q k v : Vec Ideal S2048x64 .f32) (b : Vec Ideal S1x2048x8 .f32) (sel : Fin 2048 → Fin 8 → Prop)
    (t : Fin 2048 → Fin 2048 → ℝ)
    (ht : ∀ i j, ∑ d : Fin 64, (q (ix2 i d) : EReal) * ((1 / 8 : ℝ) : EReal) * k (ix2 j d) = t i j)
    (hb : ∀ i c, (b (ix3 0 i c) : EReal) = if sel i c then 0 else ⊥) (i : Fin 2048) (d : Fin 64) :
    headRows q k v b (ix2 i d) = att (fun j => (t i j : EReal)) (sel i) (fun j => v (ix2 j d)) i := by
  have h8 : Ideal.ofBits .f32 0x3E000000#32 = ((1 / 8 : ℝ) : EReal) := by
    simp [Ideal.ofBits, Ideal.ieee, -EReal.coe_mul]; norm_num
  have hm : Ideal.ofBits .f32 0x3A000000#32 = ((1 / 2048 : ℝ) : EReal) := by
    simp [Ideal.ofBits, Ideal.ieee, -EReal.coe_mul]; norm_num
  have hi : key (chunkOf i).val ⟨i.val % 256, by omega⟩ = i := key_chunkOf i
  have ha := (chunkOf i).isLt
  unfold headRows
  refine (concatenate_ofFn_apply (t := S2048x64) (s₁ := S256x64) 0 (fun a : Fin 8 => outRows k4_pay2 (k4_pay4 q) (k4_pay5 k) (k4_pay6 v) (k4_pay7 b) a.val (k4_pay8 v)) _ rfl 256 rfl (ix2 i d) (chunkOf i) rfl (ix2 ⟨i.val % 256, by omega⟩ d) rfl (fun ax hne => by
    match ax with
    | ⟨0, _⟩ => exact absurd rfl hne
    | ⟨1, _⟩ => rfl)).trans ((outRows_apply _ _ _ _ _ _ _ _).trans ?_)
  have hQ : ∀ j e, (k4_pay4 q (ix2 j e) : EReal) = q (ix2 j e) * ((1 / 8 : ℝ) : EReal) := fun j e => by
    show (shapeCast S2048x64 q _ (ix2 j e) : EReal) * Ideal.ofBits .f32 0x3E000000#32 = _
    rw [shapeCast_self, h8]
  have hK : ∀ j e, (k4_pay5 k (ix2 j e) : EReal) = k (ix2 j e) := fun j e => by
    show (shapeCast S2048x64 k _ (ix2 j e) : EReal) = _
    rw [shapeCast_self]
  have hV : ∀ j e, (k4_pay6 v (ix2 j e) : EReal) = v (ix2 j e) := fun j e => by
    show (shapeCast S2048x64 v _ (ix2 j e) : EReal) = _
    rw [shapeCast_self]
  have hB : ∀ j c, (k4_pay7 b (ix2 j c) : EReal) = b (ix3 0 j c) := fun j c => shapeCast_1ab_ab_apply b _ j c
  have hmean : (k4_pay8 v (ix2 0 d) : EReal) = (∑ j, (v (ix2 j d) : EReal)) * ((1 / 2048 : ℝ) : EReal) := by
    show (shapeCast S1x64 _ _ (ix2 0 d) : EReal) * Ideal.ofBits .f32 0x3A000000#32 = _
    rw [hm]
    congr 1
    refine (shapeCast_a_1a_apply _ _ 0 d).trans ?_
    refine (Ideal.multiReduction_add_single _ _ _ _ _ _).trans ?_
    refine Finset.sum_congr rfl fun j _ => ?_
    show (shapeCast S2048x64 v _ _ : EReal) = _
    rw [shapeCast_self]
    exact congrArg v (Shape.idx_ext₂ rfl rfl)
  generalize hA : (chunkOf i).val = a at *
  generalize hR : (⟨i.val % 256, by omega⟩ : Fin 256) = r at *
  have hmain := chunks_eq_att (t i) (sel i) (fun j => v (ix2 j d)) a r
    (fun c s => score k4_pay2 (k4_pay4 q) (k4_pay5 k) a c (ix2 r s)) (fun c => bcol (k4_pay7 b) a c (ix2 r 0)) ha
    (fun c _ s => by
      rw [score_apply, prods_apply, hi, ← ht]
      congr 1
      exact Finset.sum_congr rfl fun e _ => by rw [hQ, hK])
    (fun c hc => by
      rw [bcol_apply, hB, hi, hb]
      rw [show (⟨c % 8, by omega⟩ : Fin 8) = chunkOf (key c 0) from Fin.ext (chunkOf_key c 0).symm])
    (-(1 / 2)) (by norm_num) (top k4_pay2 (k4_pay4 q) (k4_pay5 k) (k4_pay7 b) a (ix2 r 0)) (top_apply _ _ _ _ _)
  rw [hi] at hmain
  rw [← hmain, hmean]
  simp only [mixed_apply, mass_apply, weight_apply, hV]

end Cert.KernelIdeal.Attn

end
-- ==== Proof.RouteForm.lean ====
/- The routing call's stored value, written over the rotation: the printed body repeats one comparison for seven
   rotations of the chunks, spelt out; here it is stated once. -/
module

public import proofs.«01_k».proof.Proof.Gen.KernelIdeal.Frame

@[expose] public section

set_option maxRecDepth 16384

noncomputable section

namespace Cert.KernelIdeal.Route

open Idealize.ShloMosaic Cert.KernelIdeal Cert.KernelIdeal.Gen

variable {F : FTy → Type} [FloatOps F] [Named F]

/-- The quotient of every word by `n`, rounded down. -/
def quo (s : Shape) (x : IVec s 32) (n : BitVec 32) : IVec s 32 :=
  select (andi (cmpi .ne (subi (extui 32 (cmpi .sgt x (broadcast s 0#32)) natLt_1_32) (extui 32 (cmpi .slt x (broadcast s 0#32)) natLt_1_32))
      (broadcast s (Scalar.subi (Scalar.extui (Scalar.cmpi .sgt n 0#32)) (Scalar.extui (Scalar.cmpi .slt n 0#32)))))
      (cmpi .ne (remsi x (broadcast s n)) (broadcast s 0#32)))
    (subi (divsi x (broadcast s n)) (broadcast s 1#32)) (divsi x (broadcast s n))

/-- The divisor a remainder is taken by: one in place of zero. -/
def divisor (n : BitVec 32) : BitVec 32 := Scalar.select (Scalar.cmpi .eq n 0#32) 1#32 n

/-- The remainder of every word by `n`, of the divisor's sign. -/
def rem (s : Shape) (h : s.Broadcasts s) (x : IVec s 32) (n : BitVec 32) : IVec s 32 :=
  select (andi (xori (cmpi .slt (remsi x (broadcast s (divisor n))) (broadcast s 0#32))
      (broadcastTo s (broadcast s (Scalar.cmpi .slt (divisor n) 0#32)) h)) (cmpi .ne (remsi x (broadcast s (divisor n))) (broadcast s 0#32)))
    (addi (remsi x (broadcast s (divisor n))) (broadcast s (divisor n))) (remsi x (broadcast s (divisor n)))

/-- Row (axis 0) or column (axis 1) numbers. -/
abbrev rows128 : IVec S128x128 32 := iota .tc S128x128 32 [0] iota_S128x128_d0_w32
abbrev cols128 : IVec S128x128 32 := iota .tc S128x128 32 [1] iota_S128x128_d1_w32

/-- The matrix that moves the similarity of chunk `c + r` (within a head, cyclically) to chunk `c`. -/
def turn (r : ℕ) : FVec F S128x128 .f32 :=
  sitofp .f32 (extui 32 (andi (cmpi .eq (quo S128x128 rows128 8#32) (quo S128x128 cols128 8#32))
    (cmpi .eq (rem S128x128 broadcasts_S128x128_S128x128 rows128 8#32)
      (rem S128x128 broadcasts_S128x128_S128x128 (addi (rem S128x128 broadcasts_S128x128_S128x128 cols128 8#32) (broadcast S128x128 (BitVec.ofNat 32 r))) 8#32))) natLt_1_32)

/-- The chunk number of each column. -/
def lane : IVec S2048x128 32 := rem S2048x128 broadcasts_S2048x128_S2048x128 (iota .tc S2048x128 32 [1] iota_S2048x128_d1_w32) 8#32

/-- The similarities of the rotated chunks. -/
def turned (s : FVec F S2048x128 .f32) (r : ℕ) : FVec F S2048x128 .f32 :=
  matmul dot_S2048x128_S128x128_S2048x128_1_0_0_1_n_n none s (turn r) (constant S2048x128 .f32 0x00000000#32)

/-- How many of the first `n` rotated chunks come before a chunk. -/
def rank (s : FVec F S2048x128 .f32) : ℕ → IVec S2048x128 32
  | 0 => broadcast S2048x128 0#32
  | n + 1 => addi (rank s n) (extui 32 (ori (cmpf .ogt (turned s (n + 1)) s)
      (andi (cmpf .oeq (turned s (n + 1)) s) (cmpi .sge (addi lane (broadcast S2048x128 (BitVec.ofNat 32 (n + 1)))) (broadcast S2048x128 8#32)))) natLt_1_32)

/-- The 0/1 matrix of row `n` in chunk `c`. -/
def inChunk : FVec F S2048x8 .f32 :=
  sitofp .f32 (extui 32 (cmpi .eq (quo S2048x8 (iota .tc S2048x8 32 [0] iota_S2048x8_d0_w32) 256#32) (iota .tc S2048x8 32 [1] iota_S2048x8_d1_w32)) natLt_1_32)

/-- The mean key of each chunk, a column per chunk. -/
def means (k : FVec F S2048x1024 .f32) : FVec F S1024x8 .f32 :=
  mulf (matmul dot_S2048x1024_S2048x8_S1024x8_0_0_1_1_n_n none k inChunk (constant S1024x8 .f32 0x00000000#32)) (broadcast S1024x8 (Scalar.ofBits .f32 0x3B800000#32))

/-- The 0/1 matrix that spreads the chunks over the heads' columns. -/
def spread : FVec F S8x128 .f32 :=
  sitofp .f32 (extui 32 (cmpi .eq (iota .tc S8x128 32 [0] iota_S8x128_d0_w32)
    (rem S8x128 broadcasts_S8x128_S8x128 (iota .tc S8x128 32 [1] iota_S8x128_d1_w32) 8#32)) natLt_1_32)

/-- The mean keys, a column per head and chunk, zero outside the head. -/
def headMeans (k : FVec F S2048x1024 .f32) : FVec F S1024x128 .f32 :=
  select (cmpi .eq (quo S1024x128 (iota .tc S1024x128 32 [0] iota_S1024x128_d0_w32) 64#32)
      (quo S1024x128 (iota .tc S1024x128 32 [1] iota_S1024x128_d1_w32) 8#32))
    (matmul dot_S1024x8_S8x128_S1024x128_1_0_0_1_n_n none (means k) spread (constant S1024x128 .f32 0x00000000#32))
    (broadcast S1024x128 (Scalar.ofBits .f32 0x00000000#32))

/-- The similarities of every row to every head's chunks. -/
def sims (q k : FVec F S2048x1024 .f32) : FVec F S2048x128 .f32 :=
  mulf (matmul dot_S2048x1024_S1024x128_S2048x128_1_0_0_1_n_n none q (headMeans k) (constant S2048x128 .f32 0x00000000#32))
    (broadcast S2048x128 (Scalar.ofBits .f32 0x3E000000#32))

/-- The bias: zero at the five first chunks, the mask's value elsewhere. -/
def bias (q k : FVec F S2048x1024 .f32) : FVec F S2048x128 .f32 :=
  select (cmpi .slt (rank (sims q k) 7) (broadcast S2048x128 5#32)) (broadcast S2048x128 (Scalar.ofBits .f32 0x00000000#32))
    (broadcast S2048x128 (Named.named κ "mask" 0xCE6E6B28#32))

set_option maxHeartbeats 4000000 in
theorem out_form (x0 x1 : Vec F S2048x1024 .f32) :
    out3_2 x0 x1 = View.canon [⟨r3_1, bias (shapeCast S2048x1024 (View.ld x0 r3_0) shapeCasts_S2048x1024_S2048x1024)
      (shapeCast S2048x1024 (View.ld x1 r3_0) shapeCasts_S2048x1024_S2048x1024)⟩] := by
  rfl

end Cert.KernelIdeal.Route

end
-- ==== Proof.Choice.lean ====
/- Which chunks a query looks at, as mathematics: a chunk's similarity to the query and its place among the eight. -/
module

public import proofs.«01_k».proof.Proof.Spec

@[expose] public section

noncomputable section

namespace Cert.Spec

open Idealize.ShloMosaic
open scoped Classical

/-- Entry `d` of head `h`. -/
def lane (h : Fin 16) (d : Fin 64) : Fin 1024 := ⟨64 * h.val + d.val, by omega⟩

/-- The head a column belongs to. -/
def headOf (e : Fin 1024) : Fin 16 := ⟨e.val / 64, by omega⟩

theorem headOf_lane (h : Fin 16) (d : Fin 64) : headOf (lane h d) = h :=
  Fin.ext (by show (64 * h.val + d.val) / 64 = h.val; omega)

/-- Entry `d` of the mean key of chunk `c` in head `h`. -/
def meanKey (k : Fin 2048 → Fin 1024 → EReal) (h : Fin 16) (c : Fin 8) (d : Fin 64) : EReal :=
  (∑ r : Fin 256, k (key c.val r) (lane h d)) * ((1 / 256 : ℝ) : EReal)

/-- The similarity of a query to a chunk: its scaled product with the chunk's mean key. -/
def sim (q k : Fin 2048 → Fin 1024 → EReal) (h : Fin 16) (i : Fin 2048) (c : Fin 8) : EReal :=
  (∑ d : Fin 64, q i (lane h d) * meanKey k h c d) * ((1 / 8 : ℝ) : EReal)

/-- Chunk `c'` comes before chunk `c`: it is more similar, or as similar and earlier. -/
def before (s : Fin 8 → EReal) (c' c : Fin 8) : Prop := s c < s c' ∨ (s c' = s c ∧ c' < c)

/-- How many chunks come before `c`. -/
def place (s : Fin 8 → EReal) (c : Fin 8) : ℕ := (Finset.univ.filter fun c' => before s c' c).card

/-- The five first chunks are selected. -/
def selected (q k : Fin 2048 → Fin 1024 → EReal) (h : Fin 16) (i : Fin 2048) (c : Fin 8) : Prop :=
  place (sim q k h i) c < 5

/-- A sum restricted to one block of its index is the sum over the block. -/
theorem sum_block {N n : ℕ} (hn : 0 < n) (h : ℕ) (hh : n * h + n ≤ N) (f : Fin N → EReal) :
    (∑ e : Fin N, if e.val / n = h then f e else 0) = ∑ d : Fin n, f ⟨n * h + d.val, by omega⟩ := by
  rw [← Finset.sum_filter]
  symm
  refine Finset.sum_bij (fun d _ => ⟨n * h + d.val, by omega⟩) ?_ ?_ ?_ ?_
  · intro d _
    rw [Finset.mem_filter]
    refine ⟨Finset.mem_univ _, ?_⟩
    show (n * h + d.val) / n = h
    rw [Nat.mul_add_div hn, Nat.div_eq_of_lt d.isLt, Nat.add_zero]
  · intro d _ d' _ e
    have := congrArg Fin.val e
    exact Fin.ext (by simpa using this)
  · intro e he
    rw [Finset.mem_filter] at he
    refine ⟨⟨e.val % n, Nat.mod_lt _ hn⟩, Finset.mem_univ _, Fin.ext ?_⟩
    show n * h + e.val % n = e.val
    rw [← he.2, Nat.div_add_mod]
  · intro d _; rfl

/-- The seven rotations of the chunks count every chunk but the one itself. -/
theorem sum_rotations (f : Fin 8 → ℕ) (c : Fin 8) (hc : f c = 0) :
    ∑ n ∈ Finset.range 7, f ⟨(c.val + (n + 1)) % 8, by omega⟩ = ∑ c', f c' := by
  rw [Fin.sum_univ_eight]
  simp only [Finset.sum_range_succ, Finset.sum_range_zero]
  fin_cases c <;> simp at hc ⊢ <;> rw [hc] <;> ring

end Cert.Spec

end
-- ==== Proof.RouteValue.lean ====
/- The routing call's bias at an index: zero at the chunks a query looks at, minus infinity at the others. -/
module

public import proofs.«01_k».proof.Proof.RouteForm
public import proofs.«01_k».proof.Proof.Choice
public import Idealize.ShloMosaic.Lib.MatmulPlain
public import Idealize.ShloMosaic.Lib.ValueLayout
public import Idealize.ShloMosaic.Lib.IdealHost
public import Idealize.ShloMosaic.Lib.WordCmp

@[expose] public section

set_option maxRecDepth 16384

noncomputable section

namespace Cert.KernelIdeal.Route

open Idealize.ShloMosaic Idealize.ShloMosaic.ValueIdx Cert.KernelIdeal Cert.KernelIdeal.Gen Cert.Spec
open scoped Classical

/-! ## The words -/

/-- One word's quotient. -/
def quoW (x n : BitVec 32) : BitVec 32 :=
  Scalar.select (IntOp.andi (IntOp.cmpi .ne (IntOp.subi ((IntOp.cmpi .sgt x 0#32).setWidth 32) ((IntOp.cmpi .slt x 0#32).setWidth 32))
      (IntOp.subi ((IntOp.cmpi .sgt n 0#32).setWidth 32) ((IntOp.cmpi .slt n 0#32).setWidth 32)))
      (IntOp.cmpi .ne (IntOp.remsi .vector x n) 0#32))
    (IntOp.subi (IntOp.divsi .vector x n) 1#32) (IntOp.divsi .vector x n)

/-- One word's remainder. -/
def remW (x n : BitVec 32) : BitVec 32 :=
  Scalar.select (IntOp.andi (IntOp.xori (IntOp.cmpi .slt (IntOp.remsi .vector x (divisor n)) 0#32) (IntOp.cmpi .slt (divisor n) 0#32))
      (IntOp.cmpi .ne (IntOp.remsi .vector x (divisor n)) 0#32))
    (IntOp.addi (IntOp.remsi .vector x (divisor n)) (divisor n)) (IntOp.remsi .vector x (divisor n))

theorem quo_apply (s : Shape) (x : IVec s 32) (n : BitVec 32) (i : s.Idx) : quo s x n i = quoW (x i) n := rfl

theorem rem_apply (s : Shape) (h : s.Broadcasts s) (x : IVec s 32) (n : BitVec 32) (i : s.Idx) : rem s h x n i = remW (x i) n := rfl

theorem quo8 : ∀ x : Fin 128, quoW (BitVec.ofNat 32 x.val) 8#32 = BitVec.ofNat 32 (x.val / 8) := by decide +kernel
theorem quo64 : ∀ x : Fin 1024, quoW (BitVec.ofNat 32 x.val) 64#32 = BitVec.ofNat 32 (x.val / 64) := by decide +kernel
theorem quo256 : ∀ x : Fin 2048, quoW (BitVec.ofNat 32 x.val) 256#32 = BitVec.ofNat 32 (x.val / 256) := by decide +kernel
theorem rem8 : ∀ x : Fin 128, remW (BitVec.ofNat 32 x.val) 8#32 = BitVec.ofNat 32 (x.val % 8) := by decide +kernel

theorem bool_real (p : Prop) [Decidable p] : (((BitVec.ofBool (decide p)).setWidth 32).toInt : ℝ) = if p then 1 else 0 := by
  by_cases h : p
  · rw [if_pos h, decide_eq_true h]; simp
  · rw [if_neg h, decide_eq_false h]; simp

/-- A comparison as a float is one or zero. -/
theorem flag_apply {s : Shape} (c : IVec s 1) (i : s.Idx) (p : Prop) [Decidable p] (h : c i = BitVec.ofBool (decide p)) :
    (sitofp .f32 (extui 32 c natLt_1_32) : FVec Ideal s .f32) i = if p then (1 : EReal) else 0 := by
  show ((((c i).setWidth 32).toInt : ℝ) : EReal) = _
  rw [h, bool_real]
  split <;> simp

theorem ofBool_and (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem ofBool_or (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

/-! ## The rotation matrices -/

theorem turn_apply (r : ℕ) (hr : r < 8) (p j : Fin 128) :
    turn (F := Ideal) r (ix2 p j) = if p.val = 8 * (j.val / 8) + (j.val % 8 + r) % 8 then (1 : EReal) else 0 := by
  unfold turn
  refine (flag_apply _ _ (p.val / 8 = j.val / 8 ∧ p.val % 8 = (j.val % 8 + r) % 8) ?_).trans ?_
  · show IntOp.andi (IntOp.cmpi .eq (quo _ _ _ _) (quo _ _ _ _)) (IntOp.cmpi .eq (rem _ _ _ _ _) (rem _ _ _ _ _)) = _
    have hp : rows128 (ix2 p j) = BitVec.ofNat 32 p.val := iota_single_apply _ _ _ _ _ _
    have hj : cols128 (ix2 p j) = BitVec.ofNat 32 j.val := iota_single_apply _ _ _ _ _ _
    have hx : addi (rem S128x128 broadcasts_S128x128_S128x128 cols128 8#32) (broadcast S128x128 (BitVec.ofNat 32 r)) (ix2 p j)
        = BitVec.ofNat 32 (j.val % 8 + r) := by
      show (rem _ _ _ _ _) + BitVec.ofNat 32 r = _
      rw [rem_apply, hj, rem8, BitVec.ofNat_add]
    rw [quo_apply, quo_apply, rem_apply, rem_apply, hx, hp, hj, quo8, quo8, rem8, rem8 ⟨j.val % 8 + r, by omega⟩,
      WordCmp.cmpi_eq_ofNat (by omega) (by omega), WordCmp.cmpi_eq_ofNat (by omega) (by show (j.val % 8 + r) % 8 < _; omega), ofBool_and]
  · congr 1
    apply propext
    constructor
    · rintro ⟨h1, h2⟩; omega
    · intro h; omega

/-- The column of head `h` and chunk `c`. -/
def col (h : Fin 16) (c : Fin 8) : Fin 128 := ⟨8 * h.val + c.val, by omega⟩

theorem lane_apply (i : Fin 2048) (h : Fin 16) (c : Fin 8) : Route.lane (ix2 i (col h c)) = BitVec.ofNat 32 c.val := by
  unfold Route.lane
  rw [rem_apply, iota_single_apply]
  refine (rem8 (col h c)).trans ?_
  congr 1
  show (8 * h.val + c.val) % 8 = c.val
  omega

theorem turned_apply (s : FVec Ideal S2048x128 .f32) (r : ℕ) (hr : r < 8) (i : Fin 2048) (h : Fin 16) (c : Fin 8) :
    turned s r (ix2 i (col h c)) = s (ix2 i (col h ⟨(c.val + r) % 8, by omega⟩)) := by
  unfold turned
  show FloatOps.matmul (DotDims.plain 2048 128 128) none s (turn r) (constant S2048x128 .f32 0x00000000#32) (ix2 i (col h c)) = _
  rw [Ideal.matmul_plain_apply, show (constant S2048x128 .f32 0x00000000#32 : FVec Ideal S2048x128 .f32) (ix2 i (col h c)) = (0 : EReal) from
    Ideal.ofBits_zero_f32, zero_add]
  rw [Finset.sum_eq_single (col h ⟨(c.val + r) % 8, by omega⟩)]
  · rw [turn_apply r hr, if_pos, mul_one]
    show 8 * h.val + (c.val + r) % 8 = 8 * ((8 * h.val + c.val) / 8) + ((8 * h.val + c.val) % 8 + r) % 8
    omega
  · intro p _ hp
    rw [turn_apply r hr, if_neg, mul_zero]
    intro e
    apply hp
    apply Fin.ext
    show p.val = 8 * h.val + (c.val + r) % 8
    rw [e]
    show 8 * ((8 * h.val + c.val) / 8) + ((8 * h.val + c.val) % 8 + r) % 8 = _
    omega
  · intro e; exact absurd (Finset.mem_univ _) e

/-- The count after `n` rotations. -/
theorem rank_apply (s : FVec Ideal S2048x128 .f32) (i : Fin 2048) (h : Fin 16) (c : Fin 8) : ∀ n ≤ 7,
    rank s n (ix2 i (col h c)) = BitVec.ofNat 32 (∑ r ∈ Finset.range n,
      if before (fun c' => s (ix2 i (col h c'))) ⟨(c.val + (r + 1)) % 8, by omega⟩ c then 1 else 0)
  | 0, _ => rfl
  | n + 1, hn => by
    have hge : IntOp.cmpi .sge (BitVec.ofNat 32 (c.val + (n + 1))) 8#32 = BitVec.ofBool (decide (8 ≤ c.val + (n + 1))) :=
      WordCmp.cmpi_sge_ofNat (by omega) (by omega)
    have hc : ori (cmpf .ogt (turned s (n + 1)) s) (andi (cmpf .oeq (turned s (n + 1)) s)
        (cmpi .sge (addi Route.lane (broadcast S2048x128 (BitVec.ofNat 32 (n + 1)))) (broadcast S2048x128 8#32))) (ix2 i (col h c))
        = BitVec.ofBool (decide (before (fun c' => s (ix2 i (col h c'))) ⟨(c.val + (n + 1)) % 8, by omega⟩ c)) := by
      show IntOp.ori (Ideal.cmp .ogt (turned s (n + 1) (ix2 i (col h c))) (s (ix2 i (col h c))))
        (IntOp.andi (Ideal.cmp .oeq (turned s (n + 1) (ix2 i (col h c))) (s (ix2 i (col h c))))
          (IntOp.cmpi .sge (Route.lane (ix2 i (col h c)) + BitVec.ofNat 32 (n + 1)) 8#32)) = _
      rw [turned_apply s (n + 1) (by omega), lane_apply, ← BitVec.ofNat_add, hge]
      refine (congrArg (IntOp.ori _) (ofBool_and _ _)).trans ((ofBool_or _ _).trans ?_)
      congr 1
      refine decide_eq_decide.2 ?_
      unfold before
      refine or_congr Iff.rfl (and_congr Iff.rfl ?_)
      simp only [Fin.lt_def]
      have := c.isLt
      omega
    rw [rank, Finset.sum_range_succ]
    refine Eq.trans ?_ (BitVec.ofNat_add _ _).symm
    rw [← rank_apply s i h c n (by omega)]
    show rank s n (ix2 i (col h c)) + (ori _ _ (ix2 i (col h c))).setWidth 32 = _
    rw [hc]
    congr 1
    split
    · rename_i hb; rw [decide_eq_true hb]; rfl
    · rename_i hb; rw [decide_eq_false hb]; rfl

/-- A chunk's rank below five is its place among the five first. -/
theorem bias_of_rank (q k : FVec Ideal S2048x1024 .f32) (i : Fin 2048) (h : Fin 16) (c : Fin 8) :
    bias q k (ix2 i (col h c)) = if place (fun c' => sims q k (ix2 i (col h c'))) c < 5 then (0 : EReal) else ⊥ := by
  have hle : place (fun c' => sims q k (ix2 i (col h c'))) c ≤ 8 := (Finset.card_filter_le _ _).trans (by simp)
  unfold bias
  show Scalar.select (IntOp.cmpi .slt (rank _ 7 _) 5#32) (Ideal.ofBits .f32 0x00000000#32) (Named.named κ "mask" (φ := .f32) 0xCE6E6B28#32 : Ideal .f32) = _
  rw [rank_apply _ i h c 7 le_rfl, sum_rotations (fun c' => if before (fun c' => sims q k (ix2 i (col h c'))) c' c then 1 else 0) c
    (if_neg (by rintro (h' | ⟨-, h'⟩) <;> exact absurd h' (lt_irrefl _))), ← Finset.card_filter]
  change Scalar.select (IntOp.cmpi .slt (BitVec.ofNat 32 (place (fun c' => sims q k (ix2 i (col h c'))) c)) 5#32) _ _ = _
  rw [WordCmp.cmpi_slt_ofNat (by omega) (by omega), Ideal.ofBits_zero_f32,
    show (Named.named κ "mask" (φ := .f32) 0xCE6E6B28#32 : Ideal .f32) = (⊥ : EReal) from
    IdealRules.named_const.ideal_named_scalar _ _ _ _ rfl]
  by_cases hp : place (fun c' => sims q k (ix2 i (col h c'))) c < 5
  · rw [if_pos hp, decide_eq_true hp]; rfl
  · rw [if_neg hp, decide_eq_false hp]; rfl

/-! ## The similarities -/

theorem inChunk_apply (r : Fin 2048) (c : Fin 8) : inChunk (F := Ideal) (ix2 r c) = if r.val / 256 = c.val then (1 : EReal) else 0 := by
  unfold inChunk
  refine flag_apply _ _ _ ?_
  show IntOp.cmpi .eq (quo _ _ _ _) (iota .tc S2048x8 32 [1] _ _) = _
  rw [quo_apply, iota_single_apply, iota_single_apply]
  refine (congrArg (IntOp.cmpi .eq · _) (quo256 r)).trans ?_
  exact WordCmp.cmpi_eq_ofNat (by omega) (by show c.val < _; omega)

/-- A product contracting both operands' rows. -/
theorem matmul_rows (l : FVec Ideal S2048x1024 .f32) (r : FVec Ideal S2048x8 .f32) (e : Fin 1024) (c : Fin 8) :
    matmul dot_S2048x1024_S2048x8_S1024x8_0_0_1_1_n_n none l r (constant S1024x8 .f32 0x00000000#32) (ix2 e c)
      = ∑ j : Fin 2048, (l (ix2 j e) : EReal) * r (ix2 j c) := by
  let D := dot_S2048x1024_S2048x8_S1024x8_0_0_1_1_n_n
  have hr : D.contr.rank = 1 := rfl
  have hs : D.contr.size ⟨0, by omega⟩ = 2048 := rfl
  refine (Ideal.matmul_apply D none l r _ (ix2 e c)).trans ?_
  rw [show (constant S1024x8 .f32 0x00000000#32 : FVec Ideal S1024x8 .f32) (ix2 e c) = (0 : EReal) from Ideal.ofBits_zero_f32, zero_add,
    ← Equiv.sum_comp (contrEquiv1 D 2048 hr hs).symm]
  refine Finset.sum_congr rfl fun j _ => ?_
  have hk := contrEquiv1_symm_val D 2048 hr hs j
  have el : D.lhsIdx (ix2 e c) ((contrEquiv1 D 2048 hr hs).symm j) = ix2 j e := Shape.idx_ext₂ hk rfl
  have er : D.rhsIdx (ix2 e c) ((contrEquiv1 D 2048 hr hs).symm j) = ix2 j c := Shape.idx_ext₂ hk rfl
  rw [el, er]

theorem means_apply (k : FVec Ideal S2048x1024 .f32) (e : Fin 1024) (c : Fin 8) :
    means k (ix2 e c) = (∑ r : Fin 256, (k (ix2 (key c.val r) e) : EReal)) * ((1 / 256 : ℝ) : EReal) := by
  have h256 : Ideal.ofBits .f32 0x3B800000#32 = ((1 / 256 : ℝ) : EReal) := by
    simp [Ideal.ofBits, Ideal.ieee, -EReal.coe_mul]; norm_num
  unfold means
  show (matmul _ none k inChunk _ (ix2 e c) : EReal) * Ideal.ofBits .f32 0x3B800000#32 = _
  rw [matmul_rows, h256]
  congr 1
  simp only [inChunk_apply, mul_ite, mul_one, mul_zero]
  rw [sum_block (by decide) c.val (by omega) (fun j => (k (ix2 j e) : EReal))]
  refine Finset.sum_congr rfl fun r _ => ?_
  congr 2
  apply Fin.ext
  show 256 * c.val + r.val = 256 * (c.val % 8) + r.val
  omega

theorem spread_apply (c : Fin 8) (h : Fin 16) (c' : Fin 8) : Route.spread (F := Ideal) (ix2 c (col h c')) = if c = c' then (1 : EReal) else 0 := by
  unfold Route.spread
  refine (flag_apply _ _ (c.val = c'.val) ?_).trans (by simp only [Fin.ext_iff])
  show IntOp.cmpi .eq (iota .tc S8x128 32 [0] _ _) (rem _ _ _ _ _) = _
  rw [rem_apply, iota_single_apply, iota_single_apply]
  refine (congrArg (IntOp.cmpi .eq _) ((rem8 (col h c')).trans (congrArg (BitVec.ofNat 32) (show (8 * h.val + c'.val) % 8 = c'.val by omega)))).trans ?_
  exact WordCmp.cmpi_eq_ofNat (by show c.val < _; omega) (by omega)

theorem headMeans_apply (k : FVec Ideal S2048x1024 .f32) (e : Fin 1024) (h : Fin 16) (c : Fin 8) :
    headMeans k (ix2 e (col h c)) = if e.val / 64 = h.val then (means k (ix2 e c) : EReal) else 0 := by
  unfold headMeans
  have hc : cmpi .eq (quo S1024x128 (iota .tc S1024x128 32 [0] iota_S1024x128_d0_w32) 64#32)
      (quo S1024x128 (iota .tc S1024x128 32 [1] iota_S1024x128_d1_w32) 8#32) (ix2 e (col h c)) = BitVec.ofBool (decide (e.val / 64 = h.val)) := by
    show IntOp.cmpi .eq (quo _ _ _ _) (quo _ _ _ _) = _
    rw [quo_apply, quo_apply, iota_single_apply, iota_single_apply]
    refine (congrArg₂ (IntOp.cmpi .eq) (quo64 e) ((quo8 (col h c)).trans (congrArg (BitVec.ofNat 32) (show (8 * h.val + c.val) / 8 = h.val by omega)))).trans ?_
    exact WordCmp.cmpi_eq_ofNat (by omega) (by omega)
  show Scalar.select (cmpi _ _ _ _) (FloatOps.matmul (DotDims.plain 1024 8 128) none (means k) Route.spread (constant S1024x128 .f32 0x00000000#32) (ix2 e (col h c)))
    (Ideal.ofBits .f32 0x00000000#32) = _
  rw [hc, Ideal.matmul_plain_apply, show (constant S1024x128 .f32 0x00000000#32 : FVec Ideal S1024x128 .f32) (ix2 e (col h c)) = (0 : EReal) from
    Ideal.ofBits_zero_f32, zero_add, Ideal.ofBits_zero_f32]
  simp only [spread_apply, mul_ite, mul_one, mul_zero, Finset.sum_ite_eq', Finset.mem_univ, if_true]
  by_cases hp : e.val / 64 = h.val
  · rw [if_pos hp, decide_eq_true hp]; rfl
  · rw [if_neg hp, decide_eq_false hp]; rfl

theorem sims_apply (q k : FVec Ideal S2048x1024 .f32) (i : Fin 2048) (h : Fin 16) (c : Fin 8) :
    sims q k (ix2 i (col h c)) = sim (fun i e => q (ix2 i e)) (fun i e => k (ix2 i e)) h i c := by
  have h8 : Ideal.ofBits .f32 0x3E000000#32 = ((1 / 8 : ℝ) : EReal) := by
    simp [Ideal.ofBits, Ideal.ieee, -EReal.coe_mul]; norm_num
  unfold sims sim
  show (FloatOps.matmul (DotDims.plain 2048 1024 128) none q (headMeans k) (constant S2048x128 .f32 0x00000000#32) (ix2 i (col h c)) : EReal)
    * Ideal.ofBits .f32 0x3E000000#32 = _
  rw [h8, Ideal.matmul_plain_apply, show (constant S2048x128 .f32 0x00000000#32 : FVec Ideal S2048x128 .f32) (ix2 i (col h c)) = (0 : EReal) from
    Ideal.ofBits_zero_f32, zero_add]
  congr 1
  simp only [headMeans_apply, mul_ite, mul_zero]
  rw [sum_block (by decide) h.val (by omega) (fun e => (q (ix2 i e) : EReal) * means k (ix2 e c))]
  refine Finset.sum_congr rfl fun d _ => ?_
  rw [means_apply]
  rfl

/-- The bias is zero at the selected chunks and minus infinity elsewhere. -/
theorem bias_apply (q k : FVec Ideal S2048x1024 .f32) (i : Fin 2048) (h : Fin 16) (c : Fin 8) :
    bias q k (ix2 i (col h c)) = if selected (fun i e => q (ix2 i e)) (fun i e => k (ix2 i e)) h i c then (0 : EReal) else ⊥ := by
  rw [bias_of_rank, funext (sims_apply q k i h)]
  exact if_congr Iff.rfl rfl rfl

end Cert.KernelIdeal.Route

end
-- ==== Proof.Regions.lean ====
/- The routing call's and the attention call's result arrays. -/
module

public import proofs.«01_k».proof.Proof.AttnValue
public import proofs.«01_k».proof.Proof.RouteValue
public import Idealize.ShloMosaic.Lib.Pipeline.Value

@[expose] public section

set_option maxRecDepth 16384

noncomputable section

namespace Cert.KernelIdeal.Regions

open Idealize.ShloMosaic Idealize.ShloMosaic.ValueIdx Idealize.ShloMosaic.TcCoe Cert.KernelIdeal Cert.KernelIdeal.Gen
open Idealize.ShloMosaic.Pipeline (Dat)
open Cert.Spec
open scoped Classical

theorem hz : (![0, 0] : Fin 2 → Nat) = fun _ => 0 := funext fun a => by fin_cases a <;> rfl

variable (V : (c : Dev nD) → (b : Ref sig .tc) → Buf (Elt Ideal) ((c : Thread nD τ).loc b)) (c : Dev nD)

/-! ## Region 3: the routing -/

theorem index3 : ∀ t : Fin cfg3.N, (win3_0.index t 0 = 0 ∧ win3_0.index t 1 = 0) ∧ (win3_1.index t 0 = 0 ∧ win3_1.index t 1 = 0)
    ∧ (win3_2.index t 0 = 0 ∧ win3_2.index t 1 = 0) := by decide +kernel

/-- The routing call's block: the bias of the whole query and key matrices. -/
theorem block3 (x0 x1 : Vec Ideal S2048x1024 .f32) : out3_2 x0 x1 = Route.bias (F := Ideal) x0 x1 := by
  rw [Route.out_form, View.canon_unit_zero (S := S2048x128) hz, View.ld_unit_zero (S := S2048x1024) hz,
    View.ld_unit_zero (S := S2048x1024) hz]
  exact congrArg₂ (Route.bias (F := Ideal)) (shapeCast_self _ _) (shapeCast_self _ _)

theorem flushed3 (t : Fin cfg3.N) : (dat3 V c).flushed 2 t = ((cfg3.win 2).blk t).view.read (Elt Ideal)
    (Route.bias (F := Ideal) (V c main_v1) (V c main_v2)) := by
  obtain ⟨⟨ha0, ha1⟩, ⟨hw0, hw1⟩, ho0, ho1⟩ := index3 t
  have e0 : iblk3 V c 0 t = (V c main_v1 : Vec Ideal S2048x1024 .f32) := funext fun y =>
    congrArg (V c main_v1) (Shape.idx_ext₂ (by show win3_0.index t 0 * 2048 + 1 * (y 0).val = (y 0).val; omega)
      (by show win3_0.index t 1 * 1024 + 1 * (y 1).val = (y 1).val; omega))
  have e1 : iblk3 V c 1 t = (V c main_v2 : Vec Ideal S2048x1024 .f32) := funext fun y =>
    congrArg (V c main_v2) (Shape.idx_ext₂ (by show win3_1.index t 0 * 2048 + 1 * (y 0).val = (y 0).val; omega)
      (by show win3_1.index t 1 * 1024 + 1 * (y 1).val = (y 1).val; omega))
  show (cfg3.win 2).cut (grid3.coords t) ((dat3 V c).after 2 t) = _
  rw [after3_2, show out3_2 (iblk3 V c 0 t) (iblk3 V c 1 t) = Route.bias (F := Ideal) (V c main_v1) (V c main_v2) from
    (block3 _ _).trans (congrArg₂ (Route.bias (F := Ideal)) e0 e1)]
  exact funext fun y => congrArg (Route.bias (F := Ideal) (V c main_v1) (V c main_v2))
    (Shape.idx_ext₂ (by show (y 0).val = win3_2.index t 0 * 2048 + 1 * (y 0).val; omega)
      (by show (y 1).val = win3_2.index t 1 * 128 + 1 * (y 1).val; omega))

/-- Region 3's result array: the bias. -/
theorem result3 : (dat3 V c).arrAt 2 cfg3.N = Route.bias (F := Ideal) (V c main_v1) (V c main_v2) :=
  (dat3 V c).arrAt_eq_of_cover 2 _ (fun t _ => flushed3 V c t) fun i => by
    have h0 : (i 0 : Nat) < 2048 := (i 0).isLt
    have h1 : (i 1 : Nat) < 128 := (i 1).isLt
    let t : Fin cfg3.N := ⟨0, by show _ < 1; omega⟩
    obtain ⟨-, -, ho0, ho1⟩ := index3 t
    refine ⟨t, flush3_2 t, ?_⟩
    show i ∈ ((View.whole main_v4).slice (win3_2.rect t)).set
    rw [View.set_slice_whole, Rect.mem_set_unit]
    intro a
    match a with
    | ⟨0, _⟩ => show win3_2.index t 0 * 2048 ≤ (i 0 : Nat) ∧ (i 0 : Nat) < win3_2.index t 0 * 2048 + 2048; omega
    | ⟨1, _⟩ => show win3_2.index t 1 * 128 ≤ (i 1 : Nat) ∧ (i 1 : Nat) < win3_2.index t 1 * 128 + 128; omega

/-! ## Region 4: the attention -/

theorem index4 : ∀ t : Fin cfg4.N, (win4_0.index t 0 = 0 ∧ win4_0.index t 1 = t.val) ∧ (win4_1.index t 0 = 0 ∧ win4_1.index t 1 = t.val)
    ∧ (win4_2.index t 0 = 0 ∧ win4_2.index t 1 = t.val) ∧ (win4_3.index t 0 = t.val ∧ win4_3.index t 1 = 0 ∧ win4_3.index t 2 = 0)
    ∧ (win4_4.index t 0 = 0 ∧ win4_4.index t 1 = t.val) := by decide +kernel

theorem idx_ext₃ {n : Fin 3 → ℕ} {x y : (a : Fin 3) → Fin (n a)} (h0 : (x 0 : ℕ) = y 0) (h1 : (x 1 : ℕ) = y 1) (h2 : (x 2 : ℕ) = y 2) : x = y :=
  funext fun a => Fin.ext (match a with | ⟨0, _⟩ => h0 | ⟨1, _⟩ => h1 | ⟨2, _⟩ => h2)

section Attention

/-- The arrays the attention reads: queries, keys, values, bias. -/
abbrev qs : (⟨2, ![2048, 1024]⟩ : Shape).Idx → EReal := V c main_v1
/-- The keys. -/
abbrev ks : (⟨2, ![2048, 1024]⟩ : Shape).Idx → EReal := V c main_v2
/-- The values. -/
abbrev vs : (⟨2, ![2048, 1024]⟩ : Shape).Idx → EReal := V c main_v3
/-- The bias, head first. -/
abbrev bs : (⟨3, ![16, 2048, 8]⟩ : Shape).Idx → EReal := V c main_v6

variable (sel : Fin 16 → Fin 2048 → Fin 8 → Prop) (w : Fin 16 → Fin 2048 → Fin 2048 → ℝ)

/-- The attention's result. -/
def heads : (⟨2, ![2048, 1024]⟩ : Shape).Idx → EReal := fun i =>
  att (fun j => (w (headOf (i 1)) (i 0) j : EReal)) (sel (headOf (i 1)) (i 0)) (fun j => vs V c (ix2 j (i 1))) (i 0)

variable (hw : ∀ h i j, ∑ d : Fin 64, (qs V c (ix2 i (lane h d)) : EReal) * ((1 / 8 : ℝ) : EReal) * ks V c (ix2 j (lane h d)) = w h i j)
  (hb : ∀ h i n, (bs V c (ix3 h i n) : EReal) = if sel h i n then 0 else ⊥)

include hw hb

/-- One head of a block: its rows from the columns where the head lies. -/
theorem head_rows (q k v : Vec Ideal S2048x64 .f32) (b : Vec Ideal S1x2048x8 .f32) (h : Fin 16)
    (hq : ∀ i d, q (ix2 i d) = qs V c (ix2 i (lane h d))) (hk : ∀ i d, k (ix2 i d) = ks V c (ix2 i (lane h d)))
    (hv : ∀ i d, v (ix2 i d) = vs V c (ix2 i (lane h d))) (hbb : ∀ i n, b (ix3 0 i n) = bs V c (ix3 h i n))
    (i : Fin 2048) (d : Fin 64) : Attn.headRows q k v b (ix2 i d) = heads V c sel w (ix2 i (lane h d)) := by
  rw [Attn.headRows_apply q k v b (sel h) (w h) (fun i j => by simp only [hq, hk, hw]) (fun i n => by rw [hbb, hb])]
  show _ = att (fun j => (w (headOf (lane h d)) i j : EReal)) (sel (headOf (lane h d)) i) (fun j => vs V c (ix2 j (lane h d))) i
  rw [headOf_lane]
  simp only [hv]

theorem flushed4 (t : Fin cfg4.N) : (dat4 V c).flushed 4 t = ((cfg4.win 4).blk t).view.read (Elt Ideal) (heads V c sel w) := by
  have hN : t.val < 8 := t.isLt
  obtain ⟨⟨ha0, ha1⟩, ⟨hb0, hb1⟩, ⟨hc0, hc1⟩, ⟨hd0, hd1, hd2⟩, ho0, ho1⟩ := index4 t
  show (cfg4.win 4).cut (grid4.coords t) ((dat4 V c).after 4 t) = _
  rw [after4_4, Attn.out_form, View.canon_unit_zero (S := S2048x128) hz]
  funext y
  obtain ⟨r, e, rfl⟩ : ∃ (r : Fin 2048) (e : Fin 128), y = ix2 r e := ⟨y 0, y 1, Shape.idx_ext₂ rfl rfl⟩
  have hout : ∀ e' : Fin 1024, e'.val = 128 * t.val + e.val →
      heads V c sel w (ix2 r e') = ((cfg4.win 4).blk t).view.read (Elt Ideal) (heads V c sel w) (ix2 r e) := fun e' he =>
    congrArg (heads V c sel w) (Shape.idx_ext₂ (by show r.val = win4_4.index t 0 * 2048 + 1 * r.val; omega)
      (by show e'.val = win4_4.index t 1 * 128 + 1 * e.val; omega))
  by_cases he : e.val < 64
  · refine (concatenate_pair_apply_left (t := S2048x128) (s₁ := S2048x64) (s₂ := S2048x64) 1 _ _ _ (ix2 r e) rfl (ix2 r ⟨e.val, he⟩) (fun ax => by
      match ax with
      | ⟨0, _⟩ => rfl
      | ⟨1, _⟩ => rfl)).trans ?_
    refine (head_rows V c sel w hw hb _ _ _ _ ⟨2 * t.val, by omega⟩ (fun i d => congrArg (qs V c) (Shape.idx_ext₂ ?_ ?_))
      (fun i d => congrArg (ks V c) (Shape.idx_ext₂ ?_ ?_)) (fun i d => congrArg (vs V c) (Shape.idx_ext₂ ?_ ?_))
      (fun i n => congrArg (bs V c) (idx_ext₃ ?_ ?_ ?_)) r ⟨e.val, he⟩).trans (hout _ ?_)
    · show win4_0.index t 0 * 2048 + 1 * (0 + 1 * i.val) = i.val; omega
    · show win4_0.index t 1 * 128 + 1 * (0 + 1 * d.val) = 64 * (2 * t.val) + d.val; omega
    · show win4_1.index t 0 * 2048 + 1 * (0 + 1 * i.val) = i.val; omega
    · show win4_1.index t 1 * 128 + 1 * (0 + 1 * d.val) = 64 * (2 * t.val) + d.val; omega
    · show win4_2.index t 0 * 2048 + 1 * (0 + 1 * i.val) = i.val; omega
    · show win4_2.index t 1 * 128 + 1 * (0 + 1 * d.val) = 64 * (2 * t.val) + d.val; omega
    · show win4_3.index t 0 * 2 + 1 * (0 + 1 * 0) = 2 * t.val; omega
    · show win4_3.index t 1 * 2048 + 1 * (0 + 1 * i.val) = i.val; omega
    · show win4_3.index t 2 * 8 + 1 * (0 + 1 * n.val) = n.val; omega
    · show 64 * (2 * t.val) + e.val = 128 * t.val + e.val; omega
  · refine (concatenate_pair_apply_right (t := S2048x128) (s₁ := S2048x64) (s₂ := S2048x64) 1 _ _ _ (ix2 r e) rfl rfl (ix2 r ⟨e.val - 64, by omega⟩) (fun ax hne => by
      match ax with
      | ⟨0, _⟩ => rfl
      | ⟨1, _⟩ => exact absurd rfl hne) (by show e.val - 64 + 64 = e.val; omega)).trans ?_
    refine (head_rows V c sel w hw hb _ _ _ _ ⟨2 * t.val + 1, by omega⟩ (fun i d => congrArg (qs V c) (Shape.idx_ext₂ ?_ ?_))
      (fun i d => congrArg (ks V c) (Shape.idx_ext₂ ?_ ?_)) (fun i d => congrArg (vs V c) (Shape.idx_ext₂ ?_ ?_))
      (fun i n => congrArg (bs V c) (idx_ext₃ ?_ ?_ ?_)) r ⟨e.val - 64, by omega⟩).trans (hout _ ?_)
    · show win4_0.index t 0 * 2048 + 1 * (0 + 1 * i.val) = i.val; omega
    · show win4_0.index t 1 * 128 + 1 * (64 + 1 * d.val) = 64 * (2 * t.val + 1) + d.val; omega
    · show win4_1.index t 0 * 2048 + 1 * (0 + 1 * i.val) = i.val; omega
    · show win4_1.index t 1 * 128 + 1 * (64 + 1 * d.val) = 64 * (2 * t.val + 1) + d.val; omega
    · show win4_2.index t 0 * 2048 + 1 * (0 + 1 * i.val) = i.val; omega
    · show win4_2.index t 1 * 128 + 1 * (64 + 1 * d.val) = 64 * (2 * t.val + 1) + d.val; omega
    · show win4_3.index t 0 * 2 + 1 * (1 + 1 * 0) = 2 * t.val + 1; omega
    · show win4_3.index t 1 * 2048 + 1 * (0 + 1 * i.val) = i.val; omega
    · show win4_3.index t 2 * 8 + 1 * (0 + 1 * n.val) = n.val; omega
    · show 64 * (2 * t.val + 1) + (e.val - 64) = 128 * t.val + e.val; omega

/-- Region 4's result array: every head's attention. -/
theorem result4 : (dat4 V c).arrAt 4 cfg4.N = heads V c sel w :=
  (dat4 V c).arrAt_eq_of_cover 4 _ (fun t _ => flushed4 V c sel w hw hb t) fun i => by
    have h0 : (i 0 : Nat) < 2048 := (i 0).isLt
    have h1 : (i 1 : Nat) < 1024 := (i 1).isLt
    let t : Fin cfg4.N := ⟨(i 1 : Nat) / 128, by show _ < 8; omega⟩
    obtain ⟨-, -, -, -, ho0, ho1⟩ := index4 t
    refine ⟨t, flush4_4 t, ?_⟩
    show i ∈ ((View.whole main_v7).slice (win4_4.rect t)).set
    rw [View.set_slice_whole, Rect.mem_set_unit]
    have ht : t.val = (i 1 : Nat) / 128 := rfl
    intro a
    match a with
    | ⟨0, _⟩ => show win4_4.index t 0 * 2048 ≤ (i 0 : Nat) ∧ (i 0 : Nat) < win4_4.index t 0 * 2048 + 2048; omega
    | ⟨1, _⟩ => show win4_4.index t 1 * 128 ≤ (i 1 : Nat) ∧ (i 1 : Nat) < win4_4.index t 1 * 128 + 128; omega

end Attention

end Cert.KernelIdeal.Regions

end
-- ==== Proof.Mm.lean ====
/- The four matrix products on the grid: each result array holds the products of the rows of its two operands. -/
module

public import proofs.«01_k».proof.Proof.Gen.KernelIdeal.Frame
public import Idealize.ShloMosaic.Lib.MatmulPlain
public import Idealize.ShloMosaic.Lib.IdealHost
public import Idealize.ShloMosaic.Lib.Pipeline.Value

@[expose] public section

set_option maxRecDepth 16384

noncomputable section

namespace Cert.KernelIdeal.Mm

open Idealize.ShloMosaic Idealize.ShloMosaic.ValueIdx Idealize.ShloMosaic.TcCoe Cert.KernelIdeal Cert.KernelIdeal.Gen
open Idealize.ShloMosaic.Pipeline (Dat)

theorem hz : (![0, 0] : Fin 2 → Nat) = fun _ => 0 := funext fun a => by fin_cases a <;> rfl

/-- Entry (i, j): the sum of the products of row `i` of `a` with row `j` of `w`. -/
def rowsProd {M N : ℕ} (a : (⟨2, ![M, 1024]⟩ : Shape).Idx → EReal) (w : (⟨2, ![N, 1024]⟩ : Shape).Idx → EReal) :
    (⟨2, ![M, N]⟩ : Shape).Idx → EReal :=
  fun i => ∑ k : Fin 1024, a (ix2 (i 0) k) * w (ix2 (i 1) k)

/-- A block's product is the product of the rows the blocks are. -/
theorem block {φ : FTy} (x0 : FVec Ideal S256x1024 φ) (x1 : FVec Ideal S512x1024 φ) (A : (⟨2, ![2048, 1024]⟩ : Shape).Idx → EReal)
    (W : (⟨2, ![1024, 1024]⟩ : Shape).Idx → EReal) (i j : ℕ) (hi : i < 8) (hj : j < 2)
    (h0 : ∀ (r : Fin 256) (k : Fin 1024), x0 (ix2 r k) = A (ix2 ⟨256 * i + r.val, by omega⟩ k))
    (h1 : ∀ (r : Fin 512) (k : Fin 1024), x1 (ix2 r k) = W (ix2 ⟨512 * j + r.val, by omega⟩ k)) (r : Fin 256) (s : Fin 512) :
    (matmul dot_S256x1024_S512x1024_S256x512_1_1_0_0_n_n none x0 x1 (constant S256x512 .f32 0x00000000#32) : FVec Ideal S256x512 .f32) (ix2 r s)
      = rowsProd A W (ix2 ⟨256 * i + r.val, by omega⟩ ⟨512 * j + s.val, by omega⟩) := by
  show FloatOps.matmul (DotDims.transposedRhs 256 1024 512) none x0 x1 (constant S256x512 .f32 0x00000000#32) (ix2 r s) = _
  rw [Ideal.matmul_transposedRhs_apply, show (constant S256x512 .f32 0x00000000#32 : FVec Ideal S256x512 .f32) (ix2 r s) = (0 : EReal) from
    Ideal.ofBits_zero_f32, zero_add]
  exact Finset.sum_congr rfl fun k _ => by rw [h0, h1]

variable (V : (c : Dev nD) → (b : Ref sig .tc) → Buf (Elt Ideal) ((c : Thread nD τ).loc b)) (c : Dev nD)

/-! ## Region 0 -/

theorem index0 : ∀ t : Fin cfg0.N, (win0_0.index t 0 = t.val / 2 ∧ win0_0.index t 1 = 0) ∧ (win0_1.index t 0 = t.val % 2 ∧ win0_1.index t 1 = 0)
    ∧ (win0_2.index t 0 = t.val / 2 ∧ win0_2.index t 1 = t.val % 2) := by decide +kernel

theorem flushed0 (t : Fin cfg0.N) : (dat0 V c).flushed 2 t = ((cfg0.win 2).blk t).view.read (Elt Ideal)
    (rowsProd (M := 2048) (N := 1024) (V c main_v0) (V c main_arg1)) := by
  have hN : t.val < 16 := t.isLt
  obtain ⟨⟨ha0, ha1⟩, ⟨hw0, hw1⟩, ho0, ho1⟩ := index0 t
  show (cfg0.win 2).cut (grid0.coords t) ((dat0 V c).after 2 t) = _
  rw [after0_2]
  unfold out0_2 k0_pay1
  rw [View.canon_unit_zero (S := S256x512) hz, View.ld_unit_zero (S := S256x1024) hz, View.ld_unit_zero (S := S512x1024) hz]
  dsimp only
  rw [shapeCast_self]
  funext y
  obtain ⟨r, s, rfl⟩ : ∃ (r : Fin 256) (s : Fin 512), y = ix2 r s := ⟨y 0, y 1, Shape.idx_ext₂ rfl rfl⟩
  refine (block _ _ (V c main_v0) (V c main_arg1) (t.val / 2) (t.val % 2) (by omega) (by omega)
    (fun r k => congrArg (V c main_v0) (Shape.idx_ext₂ ?_ ?_)) (fun r k => congrArg (V c main_arg1) (Shape.idx_ext₂ ?_ ?_)) r s).trans
    (congrArg (rowsProd (M := 2048) (N := 1024) (V c main_v0) (V c main_arg1)) (Shape.idx_ext₂ ?_ ?_))
  · show win0_0.index t 0 * 256 + 1 * r.val = 256 * (t.val / 2) + r.val; omega
  · show win0_0.index t 1 * 1024 + 1 * k.val = k.val; omega
  · show win0_1.index t 0 * 512 + 1 * r.val = 512 * (t.val % 2) + r.val; omega
  · show win0_1.index t 1 * 1024 + 1 * k.val = k.val; omega
  · show 256 * (t.val / 2) + r.val = win0_2.index t 0 * 256 + 1 * r.val; omega
  · show 512 * (t.val % 2) + s.val = win0_2.index t 1 * 512 + 1 * s.val; omega

/-- Region 0's result array: the products of the rows. -/
theorem result0 : (dat0 V c).arrAt 2 cfg0.N = rowsProd (M := 2048) (N := 1024) (V c main_v0) (V c main_arg1) :=
  (dat0 V c).arrAt_eq_of_cover 2 _ (fun t _ => flushed0 V c t) fun i => by
    have h0 : (i 0 : Nat) < 2048 := (i 0).isLt
    have h1 : (i 1 : Nat) < 1024 := (i 1).isLt
    let t : Fin cfg0.N := ⟨2 * ((i 0 : Nat) / 256) + (i 1 : Nat) / 512, by show _ < 16; omega⟩
    obtain ⟨-, -, ho0, ho1⟩ := index0 t
    refine ⟨t, flush0_2 t, ?_⟩
    show i ∈ ((View.whole main_v1).slice (win0_2.rect t)).set
    rw [View.set_slice_whole, Rect.mem_set_unit]
    have ht : t.val = 2 * ((i 0 : Nat) / 256) + (i 1 : Nat) / 512 := rfl
    intro a
    match a with
    | ⟨0, _⟩ => show win0_2.index t 0 * 256 ≤ (i 0 : Nat) ∧ (i 0 : Nat) < win0_2.index t 0 * 256 + 256; omega
    | ⟨1, _⟩ => show win0_2.index t 1 * 512 ≤ (i 1 : Nat) ∧ (i 1 : Nat) < win0_2.index t 1 * 512 + 512; omega

/-! ## Region 1 -/

theorem index1 : ∀ t : Fin cfg1.N, (win1_0.index t 0 = t.val / 2 ∧ win1_0.index t 1 = 0) ∧ (win1_1.index t 0 = t.val % 2 ∧ win1_1.index t 1 = 0)
    ∧ (win1_2.index t 0 = t.val / 2 ∧ win1_2.index t 1 = t.val % 2) := by decide +kernel

theorem flushed1 (t : Fin cfg1.N) : (dat1 V c).flushed 2 t = ((cfg1.win 2).blk t).view.read (Elt Ideal)
    (rowsProd (M := 2048) (N := 1024) (V c main_v0) (V c main_arg2)) := by
  have hN : t.val < 16 := t.isLt
  obtain ⟨⟨ha0, ha1⟩, ⟨hw0, hw1⟩, ho0, ho1⟩ := index1 t
  show (cfg1.win 2).cut (grid1.coords t) ((dat1 V c).after 2 t) = _
  rw [after1_2]
  unfold out1_2 k1_pay1
  rw [View.canon_unit_zero (S := S256x512) hz, View.ld_unit_zero (S := S256x1024) hz, View.ld_unit_zero (S := S512x1024) hz]
  dsimp only
  rw [shapeCast_self]
  funext y
  obtain ⟨r, s, rfl⟩ : ∃ (r : Fin 256) (s : Fin 512), y = ix2 r s := ⟨y 0, y 1, Shape.idx_ext₂ rfl rfl⟩
  refine (block _ _ (V c main_v0) (V c main_arg2) (t.val / 2) (t.val % 2) (by omega) (by omega)
    (fun r k => congrArg (V c main_v0) (Shape.idx_ext₂ ?_ ?_)) (fun r k => congrArg (V c main_arg2) (Shape.idx_ext₂ ?_ ?_)) r s).trans
    (congrArg (rowsProd (M := 2048) (N := 1024) (V c main_v0) (V c main_arg2)) (Shape.idx_ext₂ ?_ ?_))
  · show win1_0.index t 0 * 256 + 1 * r.val = 256 * (t.val / 2) + r.val; omega
  · show win1_0.index t 1 * 1024 + 1 * k.val = k.val; omega
  · show win1_1.index t 0 * 512 + 1 * r.val = 512 * (t.val % 2) + r.val; omega
  · show win1_1.index t 1 * 1024 + 1 * k.val = k.val; omega
  · show 256 * (t.val / 2) + r.val = win1_2.index t 0 * 256 + 1 * r.val; omega
  · show 512 * (t.val % 2) + s.val = win1_2.index t 1 * 512 + 1 * s.val; omega

/-- Region 1's result array: the products of the rows. -/
theorem result1 : (dat1 V c).arrAt 2 cfg1.N = rowsProd (M := 2048) (N := 1024) (V c main_v0) (V c main_arg2) :=
  (dat1 V c).arrAt_eq_of_cover 2 _ (fun t _ => flushed1 V c t) fun i => by
    have h0 : (i 0 : Nat) < 2048 := (i 0).isLt
    have h1 : (i 1 : Nat) < 1024 := (i 1).isLt
    let t : Fin cfg1.N := ⟨2 * ((i 0 : Nat) / 256) + (i 1 : Nat) / 512, by show _ < 16; omega⟩
    obtain ⟨-, -, ho0, ho1⟩ := index1 t
    refine ⟨t, flush1_2 t, ?_⟩
    show i ∈ ((View.whole main_v2).slice (win1_2.rect t)).set
    rw [View.set_slice_whole, Rect.mem_set_unit]
    have ht : t.val = 2 * ((i 0 : Nat) / 256) + (i 1 : Nat) / 512 := rfl
    intro a
    match a with
    | ⟨0, _⟩ => show win1_2.index t 0 * 256 ≤ (i 0 : Nat) ∧ (i 0 : Nat) < win1_2.index t 0 * 256 + 256; omega
    | ⟨1, _⟩ => show win1_2.index t 1 * 512 ≤ (i 1 : Nat) ∧ (i 1 : Nat) < win1_2.index t 1 * 512 + 512; omega

/-! ## Region 2 -/

theorem index2 : ∀ t : Fin cfg2.N, (win2_0.index t 0 = t.val / 2 ∧ win2_0.index t 1 = 0) ∧ (win2_1.index t 0 = t.val % 2 ∧ win2_1.index t 1 = 0)
    ∧ (win2_2.index t 0 = t.val / 2 ∧ win2_2.index t 1 = t.val % 2) := by decide +kernel

theorem flushed2 (t : Fin cfg2.N) : (dat2 V c).flushed 2 t = ((cfg2.win 2).blk t).view.read (Elt Ideal)
    (rowsProd (M := 2048) (N := 1024) (V c main_v0) (V c main_arg3)) := by
  have hN : t.val < 16 := t.isLt
  obtain ⟨⟨ha0, ha1⟩, ⟨hw0, hw1⟩, ho0, ho1⟩ := index2 t
  show (cfg2.win 2).cut (grid2.coords t) ((dat2 V c).after 2 t) = _
  rw [after2_2]
  unfold out2_2 k2_pay1
  rw [View.canon_unit_zero (S := S256x512) hz, View.ld_unit_zero (S := S256x1024) hz, View.ld_unit_zero (S := S512x1024) hz]
  dsimp only
  rw [shapeCast_self]
  funext y
  obtain ⟨r, s, rfl⟩ : ∃ (r : Fin 256) (s : Fin 512), y = ix2 r s := ⟨y 0, y 1, Shape.idx_ext₂ rfl rfl⟩
  refine (block _ _ (V c main_v0) (V c main_arg3) (t.val / 2) (t.val % 2) (by omega) (by omega)
    (fun r k => congrArg (V c main_v0) (Shape.idx_ext₂ ?_ ?_)) (fun r k => congrArg (V c main_arg3) (Shape.idx_ext₂ ?_ ?_)) r s).trans
    (congrArg (rowsProd (M := 2048) (N := 1024) (V c main_v0) (V c main_arg3)) (Shape.idx_ext₂ ?_ ?_))
  · show win2_0.index t 0 * 256 + 1 * r.val = 256 * (t.val / 2) + r.val; omega
  · show win2_0.index t 1 * 1024 + 1 * k.val = k.val; omega
  · show win2_1.index t 0 * 512 + 1 * r.val = 512 * (t.val % 2) + r.val; omega
  · show win2_1.index t 1 * 1024 + 1 * k.val = k.val; omega
  · show 256 * (t.val / 2) + r.val = win2_2.index t 0 * 256 + 1 * r.val; omega
  · show 512 * (t.val % 2) + s.val = win2_2.index t 1 * 512 + 1 * s.val; omega

/-- Region 2's result array: the products of the rows. -/
theorem result2 : (dat2 V c).arrAt 2 cfg2.N = rowsProd (M := 2048) (N := 1024) (V c main_v0) (V c main_arg3) :=
  (dat2 V c).arrAt_eq_of_cover 2 _ (fun t _ => flushed2 V c t) fun i => by
    have h0 : (i 0 : Nat) < 2048 := (i 0).isLt
    have h1 : (i 1 : Nat) < 1024 := (i 1).isLt
    let t : Fin cfg2.N := ⟨2 * ((i 0 : Nat) / 256) + (i 1 : Nat) / 512, by show _ < 16; omega⟩
    obtain ⟨-, -, ho0, ho1⟩ := index2 t
    refine ⟨t, flush2_2 t, ?_⟩
    show i ∈ ((View.whole main_v3).slice (win2_2.rect t)).set
    rw [View.set_slice_whole, Rect.mem_set_unit]
    have ht : t.val = 2 * ((i 0 : Nat) / 256) + (i 1 : Nat) / 512 := rfl
    intro a
    match a with
    | ⟨0, _⟩ => show win2_2.index t 0 * 256 ≤ (i 0 : Nat) ∧ (i 0 : Nat) < win2_2.index t 0 * 256 + 256; omega
    | ⟨1, _⟩ => show win2_2.index t 1 * 512 ≤ (i 1 : Nat) ∧ (i 1 : Nat) < win2_2.index t 1 * 512 + 512; omega

/-! ## Region 5 -/

theorem index5 : ∀ t : Fin cfg5.N, (win5_0.index t 0 = t.val / 2 ∧ win5_0.index t 1 = 0) ∧ (win5_1.index t 0 = t.val % 2 ∧ win5_1.index t 1 = 0)
    ∧ (win5_2.index t 0 = t.val / 2 ∧ win5_2.index t 1 = t.val % 2) := by decide +kernel

theorem flushed5 (t : Fin cfg5.N) : (dat5 V c).flushed 2 t = ((cfg5.win 2).blk t).view.read (Elt Ideal)
    (rowsProd (M := 2048) (N := 1024) (V c main_v7) (V c main_arg4)) := by
  have hN : t.val < 16 := t.isLt
  obtain ⟨⟨ha0, ha1⟩, ⟨hw0, hw1⟩, ho0, ho1⟩ := index5 t
  show (cfg5.win 2).cut (grid5.coords t) ((dat5 V c).after 2 t) = _
  rw [after5_2]
  unfold out5_2 k5_pay1
  rw [View.canon_unit_zero (S := S256x512) hz, View.ld_unit_zero (S := S256x1024) hz, View.ld_unit_zero (S := S512x1024) hz]
  dsimp only
  rw [shapeCast_self]
  funext y
  obtain ⟨r, s, rfl⟩ : ∃ (r : Fin 256) (s : Fin 512), y = ix2 r s := ⟨y 0, y 1, Shape.idx_ext₂ rfl rfl⟩
  refine (block _ _ (V c main_v7) (V c main_arg4) (t.val / 2) (t.val % 2) (by omega) (by omega)
    (fun r k => congrArg (V c main_v7) (Shape.idx_ext₂ ?_ ?_)) (fun r k => congrArg (V c main_arg4) (Shape.idx_ext₂ ?_ ?_)) r s).trans
    (congrArg (rowsProd (M := 2048) (N := 1024) (V c main_v7) (V c main_arg4)) (Shape.idx_ext₂ ?_ ?_))
  · show win5_0.index t 0 * 256 + 1 * r.val = 256 * (t.val / 2) + r.val; omega
  · show win5_0.index t 1 * 1024 + 1 * k.val = k.val; omega
  · show win5_1.index t 0 * 512 + 1 * r.val = 512 * (t.val % 2) + r.val; omega
  · show win5_1.index t 1 * 1024 + 1 * k.val = k.val; omega
  · show 256 * (t.val / 2) + r.val = win5_2.index t 0 * 256 + 1 * r.val; omega
  · show 512 * (t.val % 2) + s.val = win5_2.index t 1 * 512 + 1 * s.val; omega

/-- Region 5's result array: the products of the rows. -/
theorem result5 : (dat5 V c).arrAt 2 cfg5.N = rowsProd (M := 2048) (N := 1024) (V c main_v7) (V c main_arg4) :=
  (dat5 V c).arrAt_eq_of_cover 2 _ (fun t _ => flushed5 V c t) fun i => by
    have h0 : (i 0 : Nat) < 2048 := (i 0).isLt
    have h1 : (i 1 : Nat) < 1024 := (i 1).isLt
    let t : Fin cfg5.N := ⟨2 * ((i 0 : Nat) / 256) + (i 1 : Nat) / 512, by show _ < 16; omega⟩
    obtain ⟨-, -, ho0, ho1⟩ := index5 t
    refine ⟨t, flush5_2 t, ?_⟩
    show i ∈ ((View.whole main_v8).slice (win5_2.rect t)).set
    rw [View.set_slice_whole, Rect.mem_set_unit]
    have ht : t.val = 2 * ((i 0 : Nat) / 256) + (i 1 : Nat) / 512 := rfl
    intro a
    match a with
    | ⟨0, _⟩ => show win5_2.index t 0 * 256 ≤ (i 0 : Nat) ∧ (i 0 : Nat) < win5_2.index t 0 * 256 + 256; omega
    | ⟨1, _⟩ => show win5_2.index t 1 * 512 ≤ (i 1 : Nat) ∧ (i 1 : Nat) < win5_2.index t 1 * 512 + 512; omega

end Cert.KernelIdeal.Mm

end
-- ==== Proof.Top.lean ====
/- The host's top five: which positions a stable descending sort puts among its first ones. -/
module

public import proofs.«01_k».proof.Proof.Choice
public import Idealize.ShloMosaic.Lib.SortPrefix
public import Idealize.ShloMosaic.Lib.Pipeline.Value
public import Idealize.ShloMosaic.Lib.ValueIdx
public import Idealize.ShloMosaic.PureOps.Ideal.Laws

@[expose] public section

noncomputable section

namespace Cert.Spec

open Idealize.ShloMosaic Idealize.ShloMosaic.ValueIdx
open scoped Classical

/-- The order of a stable descending sort: the greater score first, at equal scores the lower position. -/
def earlier (s : Fin 8 → EReal) (a b : Fin 8) : Bool := decide (before s a b)

theorem earlier_iff (s : Fin 8 → EReal) (a b : Fin 8) : earlier s a b = true ↔ before s a b := decide_eq_true_iff

theorem earlier_false (s : Fin 8 → EReal) (a b : Fin 8) : earlier s a b = false ↔ ¬ before s a b := decide_eq_false_iff_not

theorem earlier_strict (s : Fin 8 → EReal) : StrictTotalBefore (earlier s) where
  irrefl a := by simp [earlier_false, before]
  trans a b c hab hbc := by
    rw [earlier_iff] at *
    rcases hab with hab | ⟨e, l⟩ <;> rcases hbc with hbc | ⟨e', l'⟩
    · exact Or.inl (hbc.trans hab)
    · exact Or.inl (e' ▸ hab)
    · exact Or.inl (e ▸ hbc)
    · exact Or.inr ⟨e.trans e', l.trans l'⟩
  total a b hne := by
    simp only [earlier_iff, before]
    rcases lt_trichotomy (s a) (s b) with h | h | h
    · exact Or.inr (Or.inl h)
    · rcases lt_or_gt_of_ne hne with l | l
      · exact Or.inl (Or.inr ⟨h, l⟩)
      · exact Or.inr (Or.inr ⟨h.symm, l⟩)
    · exact Or.inl (Or.inl h)

/-- Inserting a position ahead of all those inserted before keeps the order, ties included. -/
theorem insert_ordered (s : Fin 8 → EReal) (R : Fin 8 → Fin 8 → Bool) (hR : ∀ a b, R a b = true ↔ s b < s a)
    (a : Fin 8) (l : List (Fin 8)) (hal : ∀ b ∈ l, a < b) (hl : l.Pairwise fun b c => earlier s c b = false) :
    (insertBefore R a l).Pairwise fun b c => earlier s c b = false := by
  induction l with
  | nil => exact List.pairwise_singleton _ _
  | cons b l ih =>
    rw [List.pairwise_cons] at hl
    have hab : a < b := hal b List.mem_cons_self
    unfold insertBefore
    split
    · rename_i h
      refine List.pairwise_cons.mpr ⟨fun c hc => ?_, ih (fun c hc => hal c (List.mem_cons_of_mem _ hc)) hl.2⟩
      rcases List.mem_cons.mp ((perm_insertBefore R a l).mem_iff.mp hc) with rfl | hc'
      · refine (earlier_strict s).asymm _ _ ?_
        simp only [earlier_iff, before]
        exact Or.inl ((hR _ _).mp h)
      · exact hl.1 c hc'
    · rename_i h
      have hba : earlier s b a = false := by
        rw [earlier_false]
        rintro (h' | ⟨-, h'⟩)
        · exact h ((hR _ _).mpr h')
        · exact absurd h' (not_lt.mpr hab.le)
      refine List.pairwise_cons.mpr ⟨fun c hc => ?_, List.pairwise_cons.mpr hl⟩
      rcases List.mem_cons.mp hc with rfl | hc'
      · exact hba
      · exact (earlier_strict s).negTrans _ _ _ (hl.1 c hc') hba

theorem sort_ordered (s : Fin 8 → EReal) (R : Fin 8 → Fin 8 → Bool) (hR : ∀ a b, R a b = true ↔ s b < s a)
    (l : List (Fin 8)) (hl : l.Pairwise (· < ·)) : (stableSort R l).Pairwise fun b c => earlier s c b = false := by
  induction l with
  | nil => exact List.Pairwise.nil
  | cons a l ih =>
    rw [List.pairwise_cons] at hl
    unfold stableSort
    exact insert_ordered s R hR a _ (fun b hb => hl.1 b ((perm_stableSort R l).mem_iff.mp hb)) (ih hl.2)

/-- The sorted sequence's positions are in strict order. -/
theorem sorted_before (s : Fin 8 → EReal) (R : Fin 8 → Fin 8 → Bool) (hR : ∀ a b, R a b = true ↔ s b < s a)
    (i j : Fin 8) (hij : i < j) : before s (sortedFrom R i) (sortedFrom R j) := by
  have hp : ∀ a b : Fin (sortPositions 8 R).length, a < b →
      earlier s ((sortPositions 8 R).get b) ((sortPositions 8 R).get a) = false :=
    List.pairwise_iff_get.mp (sort_ordered s R hR (List.finRange 8) (List.pairwise_lt_finRange 8))
  have h : earlier s (sortedFrom R j) (sortedFrom R i) = false := by
    unfold sortedFrom
    exact hp _ _ (by simp only [Fin.lt_def, Fin.val_cast]; exact hij)
  have hne : sortedFrom R i ≠ sortedFrom R j := fun e => hij.ne (sortedFrom_injective R e)
  rcases (earlier_strict s).total _ _ hne with h' | h'
  · simpa [earlier_iff] using h'
  · exact absurd (h.symm.trans h') (by decide)

/-- The position sorted to `j` has exactly `j` others before it. -/
theorem place_sorted (s : Fin 8 → EReal) (R : Fin 8 → Fin 8 → Bool) (hR : ∀ a b, R a b = true ↔ s b < s a) (j : Fin 8) :
    place s (sortedFrom R j) = j.val := by
  have himg : (Finset.univ.filter fun c' => before s c' (sortedFrom R j)) = (Finset.Iio j).image (sortedFrom R) := by
    ext c
    simp only [Finset.mem_filter, Finset.mem_univ, true_and, Finset.mem_image, Finset.mem_Iio]
    constructor
    · intro h
      obtain ⟨i, rfl⟩ := sortedFrom_surjective R c
      refine ⟨i, ?_, rfl⟩
      rcases lt_trichotomy i j with l | l | l
      · exact l
      · subst l
        exact absurd h (by simp [before])
      · have h1 : earlier s (sortedFrom R j) (sortedFrom R i) = true := by simpa [earlier_iff] using sorted_before s R hR j i l
        have h2 := (earlier_strict s).asymm _ _ h1
        rw [earlier_false] at h2
        exact absurd h h2
    · rintro ⟨i, l, rfl⟩
      exact sorted_before s R hR i j l
  unfold place
  rw [himg, Finset.card_image_of_injective _ (sortedFrom_injective R), Fin.card_Iio]

/-- A position is among the first five of the sort exactly when fewer than five are before it. -/
theorem mem_first (s : Fin 8 → EReal) (R : Fin 8 → Fin 8 → Bool) (hR : ∀ a b, R a b = true ↔ s b < s a) (c : Fin 8) :
    (∃ k : Fin 5, sortedFrom R ⟨k.val, by omega⟩ = c) ↔ place s c < 5 := by
  constructor
  · rintro ⟨k, rfl⟩
    rw [place_sorted s R hR]
    exact k.isLt
  · obtain ⟨j, rfl⟩ := sortedFrom_surjective R c
    rw [place_sorted s R hR]
    exact fun h => ⟨⟨j.val, h⟩, rfl⟩

/-- The positions the host's top five names at one row. -/
theorem topK_mem (x : (⟨4, ![1, 16, 2048, 8]⟩ : Shape).Idx → EReal)
    (hs : (⟨4, ![1, 16, 2048, 8]⟩ : Shape).Slices (fun _ => 0) (⟨4, ![1, 16, 2048, 5]⟩ : Shape)) (h : Fin 16) (i : Fin 2048) (c : Fin 8) :
    (∃ k : Fin 5, (Host.topK (⟨4, ![1, 16, 2048, 5]⟩ : Shape) 3 (FloatOps.cmpfTotal (F := Ideal) (φ := .f32) .gt) x hs).2 (ix4 0 h i k) = BitVec.ofNat 32 c.val)
      ↔ place (fun e => x (ix4 0 h i e)) c < 5 := by
  rw [← mem_first (fun e => x (ix4 0 h i e)) (fun a b => FloatOps.cmpfTotal (F := Ideal) (φ := .f32) .gt (x (ix4 0 h i a)) (x (ix4 0 h i b)) == 1#1)]
  · refine exists_congr fun k => ?_
    have hal : ∀ e : Fin 8, Shape.Idx.along (s := ⟨4, ![1, 16, 2048, 8]⟩) (ix4 0 h i ⟨k.val, by omega⟩) (3 : Fin 4) e = ix4 0 h i e := fun e =>
      funext fun a => by match a with | ⟨0, _⟩ => rfl | ⟨1, _⟩ => rfl | ⟨2, _⟩ => rfl | ⟨3, _⟩ => rfl
    have key : (Host.topK (⟨4, ![1, 16, 2048, 5]⟩ : Shape) 3 (FloatOps.cmpfTotal (F := Ideal) (φ := .f32) .gt) x hs).2 (ix4 0 h i k)
        = BitVec.ofNat 32 (sortedFrom (fun a b => FloatOps.cmpfTotal (F := Ideal) (φ := .f32) .gt (x (ix4 0 h i a)) (x (ix4 0 h i b)) == 1#1) (⟨k.val, by omega⟩ : Fin 8)).val := by
      refine (extractStridedSlice_apply _ (Host.sort2 (⟨4, ![1, 16, 2048, 8]⟩ : Shape) 3
        (fun l r : EReal × BitVec 32 => FloatOps.cmpfTotal (F := Ideal) (φ := .f32) .gt l.1 r.1) x (fun i => if hd : 3 < 4 then iotaInDim (⟨4, ![1, 16, 2048, 8]⟩ : Shape) 32 ⟨3, hd⟩ i else 0#32)).2
        hs (ix4 0 h i k) (ix4 0 h i ⟨k.val, by omega⟩) (fun a => by
        match a with
        | ⟨0, _⟩ => rfl
        | ⟨1, _⟩ => exact (Nat.zero_add _).symm
        | ⟨2, _⟩ => exact (Nat.zero_add _).symm
        | ⟨3, _⟩ => exact (Nat.zero_add _).symm)).trans ?_
      show BitVec.ofNat 32 (sortedFrom (fun a b : Fin 8 => FloatOps.cmpfTotal (F := Ideal) (φ := .f32) .gt
        (x (Shape.Idx.along (s := ⟨4, ![1, 16, 2048, 8]⟩) (ix4 0 h i ⟨k.val, by omega⟩) (3 : Fin 4) a))
        (x (Shape.Idx.along (s := ⟨4, ![1, 16, 2048, 8]⟩) (ix4 0 h i ⟨k.val, by omega⟩) (3 : Fin 4) b)) == 1#1) (⟨k.val, by omega⟩ : Fin 8)).val = _
      simp only [hal]
    rw [key]
    generalize sortedFrom _ _ = p
    constructor
    · intro e
      have := congrArg BitVec.toNat e
      simp only [BitVec.toNat_ofNat] at this
      exact Fin.ext (by omega)
    · rintro rfl
      rfl
  · intro a b
    rw [Ideal.cmpfTotal_def]
    simp only [beq_iff_eq, Ideal.cmp, CmpDirection.ordered]
    by_cases hlt : x (ix4 0 h i b) < x (ix4 0 h i a)
    · simp [hlt]
    · simp [hlt]

end Cert.Spec

end
-- ==== Proof.RefMask.lean ====
/- The reference's mask: the chosen chunks of a query's row, kept up to the diagonal. -/
module

public import proofs.«01_k».proof.Proof.Top
public import proofs.«01_k».proof.Proof.Gen.ReferenceIdeal.Read
public import Idealize.ShloMosaic.Lib.WordCmp
public import Idealize.ShloMosaic.Lib.ValueIdxCore

@[expose] public section

set_option maxRecDepth 16384

noncomputable section

namespace Cert.ReferenceIdeal.Mask

open Idealize.ShloMosaic Idealize.ShloMosaic.ValueIdx Idealize.ShloMosaic.TcCoe Cert.ReferenceIdeal Cert.ReferenceIdeal.Gen Cert.ReferenceIdeal.Read
open Cert.Spec
open scoped Classical

/-! ## Indices -/

theorem ext1 {n : Fin 1 → ℕ} {x y : (a : Fin 1) → Fin (n a)} (h0 : (x 0 : ℕ) = y 0) : x = y :=
  funext fun a => Fin.ext (match a with | ⟨0, _⟩ => h0)

theorem ext3 {n : Fin 3 → ℕ} {x y : (a : Fin 3) → Fin (n a)} (h0 : (x 0 : ℕ) = y 0) (h1 : (x 1 : ℕ) = y 1) (h2 : (x 2 : ℕ) = y 2) : x = y :=
  funext fun a => Fin.ext (match a with | ⟨0, _⟩ => h0 | ⟨1, _⟩ => h1 | ⟨2, _⟩ => h2)

theorem ext4 {n : Fin 4 → ℕ} {x y : (a : Fin 4) → Fin (n a)} (h0 : (x 0 : ℕ) = y 0) (h1 : (x 1 : ℕ) = y 1) (h2 : (x 2 : ℕ) = y 2)
    (h3 : (x 3 : ℕ) = y 3) : x = y :=
  funext fun a => Fin.ext (match a with | ⟨0, _⟩ => h0 | ⟨1, _⟩ => h1 | ⟨2, _⟩ => h2 | ⟨3, _⟩ => h3)

/-! ## The chunk a key lies in, as the host computes it -/

/-- Division of a key's number by 256, rounding down, on words. -/
theorem word_div : ∀ j : Fin 2048,
    Scalar.select (IntOp.andi
        (IntOp.cmpi .ne (if BitVec.ofNat 32 j.val = 0 then (0 : BitVec 32) else if (BitVec.ofNat 32 j.val).msb then -1 else 1)
          (if (256#32 : BitVec 32) = 0 then (0 : BitVec 32) else if (256#32 : BitVec 32).msb then -1 else 1))
        (IntOp.cmpi .ne (IntOp.remsi .host (BitVec.ofNat 32 j.val) 256#32) 0#32))
      (IntOp.subi (IntOp.divsi .host (BitVec.ofNat 32 j.val) 256#32) 1#32) (IntOp.divsi .host (BitVec.ofNat 32 j.val) 256#32)
    = BitVec.ofNat 32 (chunkOf j).val := by decide +kernel

theorem chunk_word (j : Fin 2048) : val_main_v24 (F := Ideal) (ix1 j) = BitVec.ofNat 32 (chunkOf j).val := by
  refine Eq.trans ?_ (word_div j)
  rw [val_main_v24_apply, val_main_call1_v11_apply, val_main_call1_v13_apply, val_main_call1_v6_apply, val_main_call1_v10_apply,
    val_main_call1_v2_apply, val_main_call1_v5_apply, val_main_call1_v8_apply, val_main_call1_v9_apply, val_main_call1_v12_apply,
    val_main_call1_v1_apply, val_main_call1_v7_apply]
  rfl

/-- The chunk numbers are in range, so nothing is wrapped, clamped or filled. -/
theorem word_range : ∀ c : Fin 8, IntOp.cmpi .slt (BitVec.ofNat 32 c.val) 0#32 = 0#1 ∧
    IntOp.andi (IntOp.cmpi .sge (BitVec.ofNat 32 c.val) 0#32) (IntOp.cmpi .sle (BitVec.ofNat 32 c.val) 7#32) = 1#1 ∧
    min (BitVec.ofNat 32 c.val).toInt.toNat 7 = c.val := by decide

theorem taken_word (j : Fin 2048) : val_main_call2_v5 (F := Ideal) (ix2 j 0) = BitVec.ofNat 32 (chunkOf j).val := by
  rw [val_main_call2_v5_apply, show idx_main_call2_v5 (ix2 j 0) = ix1 j from ext1 rfl, val_main_call2_v4_apply, val_main_call2_v1_apply,
    val_main_call2_v0_apply, chunk_word]
  show Scalar.select (IntOp.cmpi .slt (BitVec.ofNat 32 (chunkOf j).val) 0#32) _ _ = _
  rw [(word_range _).1, select_zero]

theorem fold_one (f : Fin 1 → BitVec 1) (h : f 0 = 1#1) : (Finset.univ : Finset (Fin 1)).fold IntOp.andi 1#1 f = 1#1 := by
  rw [Finset.univ_unique, Finset.fold_singleton]
  exact (congrArg (fun b => IntOp.andi b 1#1) h).trans (by decide)

theorem in_range (j : Fin 2048) : val_main_call2_v12 (F := Ideal) (ix1 j) = 1#1 := by
  unfold val_main_call2_v12
  refine (Host.reduce_eq_fold_single IntOp.andi _ _ _ (by decide) _ _).trans (fold_one _ ?_)
  refine (congrArg (val_main_call2_v11 (F := Ideal)) (show _ = ix2 j 0 from Shape.idx_ext₂ rfl rfl)).trans ?_
  rw [val_main_call2_v11_apply, val_main_call2_v7_apply, val_main_call2_v10_apply, taken_word, val_main_call2_v6_apply,
    val_main_call2_v9_apply, val_main_call2_v8_apply]
  exact (word_range (chunkOf j)).2.1

/-- The gather along the chunks, read at an index: the operand at the chunk the key's word names. -/
theorem gather_apply (x : IVec S1x16x2048x8 1) (idx : IVec S2048x1 32) (h : Fin 16) (i j : Fin 2048) :
    Host.gather gather_S1x16x2048x8_S2048x1_S1x16x2048x2048_012_3_n_n_3_1_11620481 x idx (ix4 0 h i j)
      = x (ix4 0 h i ⟨min (idx (ix2 j 0)).toInt.toNat 7, by omega⟩) := by
  unfold Host.gather
  refine congrArg x (ext4 ?_ ?_ ?_ ?_)
  all_goals show GatherDims.start _ _ _ _ + GatherDims.batchCoord _ _ _ + GatherDims.offCoord _ _ _ = _
  all_goals rw [GatherDims.batchCoord_eq_zero _ _ _ List.not_mem_nil]
  · rfl
  · unfold GatherDims.start
    rw [dif_neg (by decide)]
    unfold GatherDims.offCoord
    rw [dif_pos (by decide)]
    exact Nat.zero_add _
  · unfold GatherDims.start
    rw [dif_neg (by decide)]
    unfold GatherDims.offCoord
    rw [dif_pos (by decide)]
    exact Nat.zero_add _
  · rw [GatherDims.offCoord_eq_zero _ _ _ (by decide)]
    unfold GatherDims.start
    rw [dif_pos (by decide)]
    show min (idx _).toInt.toNat 7 + 0 + 0 = min (idx _).toInt.toNat 7
    refine congrArg (fun e => min (idx e).toInt.toNat 7) (Shape.idx_ext₂ ?_ ?_) <;> rfl

/-- The mask along the keys: the bit of the key's chunk. -/
theorem spread (x0 : (⟨S1x2048x1024, .f32⟩ : BufTy).Contents (Elt Ideal)) (x1 x2 : (⟨S1024x1024, .f32⟩ : BufTy).Contents (Elt Ideal))
    (h : Fin 16) (i j : Fin 2048) :
    val_main_v25 (F := Ideal) x0 x1 x2 (ix4 0 h i j) = val_main_v22 (F := Ideal) x0 x1 x2 (ix4 0 h i (chunkOf j)) := by
  rw [val_main_v25_apply, val_main_call2_v14_apply, show idx_main_call2_v14 (ix4 0 h i j) = ix1 j from ext1 rfl, in_range, select_one]
  unfold val_main_call2_v13
  refine (gather_apply _ _ h i j).trans (congrArg _ (ext4 rfl rfl rfl ?_))
  show min (val_main_call2_v5 (F := Ideal) (ix2 j 0)).toInt.toNat 7 = (chunkOf j).val
  rw [taken_word, (word_range _).2.2]

/-! ## The diagonal -/

theorem diagonal (i j : Fin 2048) : val_main_v27 (F := Ideal) (ix2 i j) = if j ≤ i then 1#1 else 0#1 := by
  rw [val_main_v27_apply, val_main_call3_v4_apply, val_main_call3_v2_apply, val_main_call3_v1_apply]
  have hw : IntOp.cmpi .sge (IntOp.addi (BitVec.ofNat 32 i.val) 0#32) (BitVec.ofNat 32 j.val) = if j ≤ i then 1#1 else 0#1 := by
    have hadd : IntOp.addi (BitVec.ofNat 32 i.val) 0#32 = BitVec.ofNat 32 i.val := BitVec.add_zero _
    rw [hadd, WordCmp.cmpi_sge_ofNat (lt_trans i.isLt (by decide)) (lt_trans j.isLt (by decide))]
    by_cases h : j ≤ i
    · rw [if_pos h]
      simp [Fin.le_def.mp h]
    · rw [if_neg h]
      have : ¬ j.val ≤ i.val := h
      simp [this]
  refine (show _ = Scalar.select (IntOp.cmpi .sge (IntOp.addi (BitVec.ofNat 32 i.val) 0#32) (BitVec.ofNat 32 j.val)) (1#1 : BitVec 1) 0#1 from ?_).trans ?_
  · rw [val_main_v26_apply, val_main_call3_v5_apply]
    rfl
  · rw [hw]
    split <;> rfl

/-! ## The chosen chunks -/

/-- A sum of bits is above zero exactly when one of them is set. -/
theorem bits_pos {n : ℕ} (b : Fin n → BitVec 1) : (0 : EReal) < ∑ k, (((b k).toNat : ℝ) : EReal) ↔ ∃ k, b k = 1#1 := by
  have hnn : ∀ k, (0 : EReal) ≤ (((b k).toNat : ℝ) : EReal) := fun k => by exact_mod_cast Nat.zero_le _
  constructor
  · intro hlt
    by_contra hno
    refine hlt.ne' (Finset.sum_eq_zero fun k _ => ?_)
    rw [eq_zero_of_ne_one fun e => hno ⟨k, e⟩]
    simp
  · rintro ⟨k, hk⟩
    refine lt_of_lt_of_le ?_ (Finset.single_le_sum (fun k _ => hnn k) (Finset.mem_univ k))
    rw [hk]
    simp

theorem eq_bit (a b : BitVec 32) : IntOp.cmpi .eq a b = 1#1 ↔ a = b := by
  show BitVec.ofBool (a == b) = 1#1 ↔ a = b
  by_cases h : a = b
  · simp [h]
  · have : (a == b) = false := by simpa using h
    simp [this, h]

theorem pos_bit (s : EReal) : Ideal.cmp .ogt s 0 = if 0 < s then 1#1 else 0#1 := by
  show BitVec.ofBool (decide (0 < s)) = _
  by_cases h : 0 < s
  · simp [h]
  · simp [h]

theorem chosen (x0 : (⟨S1x2048x1024, .f32⟩ : BufTy).Contents (Elt Ideal)) (x1 x2 : (⟨S1024x1024, .f32⟩ : BufTy).Contents (Elt Ideal))
    (h : Fin 16) (i : Fin 2048) (c : Fin 8) :
    val_main_v22 (F := Ideal) x0 x1 x2 (ix4 0 h i c)
      = if place (fun e => val_main_v18 (F := Ideal) x0 x1 x2 (ix4 0 h i e)) c < 5 then 1#1 else 0#1 := by
  have hbit : ∀ k : Fin 5, val_main_v19 (F := Ideal) x0 x1 x2 (idx_main_v20 (ix4 0 h i c) k)
      = (((IntOp.cmpi .eq (val_main_indices (F := Ideal) x0 x1 x2 (ix4 0 h i k)) (BitVec.ofNat 32 c.val)).toNat : ℝ) : EReal) := fun k => by
    rw [val_main_v19_apply, val_main_call0_v4_apply, val_main_call0_v2_apply, val_main_call0_v3_apply, val_main_call0_v0_apply,
      show idx_main_call0_v0 (idx_main_call0_v2 (idx_main_v20 (ix4 0 h i c) k)) = ix4 0 h i k from ext4 rfl rfl rfl rfl]
    rfl
  have hiff := (bits_pos fun k : Fin 5 => IntOp.cmpi .eq (val_main_indices (F := Ideal) x0 x1 x2 (ix4 0 h i k)) (BitVec.ofNat 32 c.val)).trans
    ((exists_congr fun k => eq_bit (val_main_indices (F := Ideal) x0 x1 x2 (ix4 0 h i k)) (BitVec.ofNat 32 c.val)).trans
      (topK_mem (val_main_v18 (F := Ideal) x0 x1 x2) sliceFits_S1x16x2048x8_S1x16x2048x5 h i c))
  rw [val_main_v22_apply, val_main_v20_apply, val_main_v21_apply]
  simp only [hbit]
  rw [show (val_main_cst_2 (F := Ideal)) (Shape.Idx.first h_S_) = (0 : EReal) from Ideal.ofBits_zero_f32, zero_add,
    show val_main_cst_3 (F := Ideal) _ = (0 : EReal) from Ideal.ofBits_zero_f32]
  exact (pos_bit _).trans (if_congr hiff rfl rfl)

/-- The reference's mask. -/
theorem mask (x0 : (⟨S1x2048x1024, .f32⟩ : BufTy).Contents (Elt Ideal)) (x1 x2 : (⟨S1024x1024, .f32⟩ : BufTy).Contents (Elt Ideal))
    (h : Fin 16) (i j : Fin 2048) :
    val_main_v30 (F := Ideal) x0 x1 x2 (ix4 0 h i j)
      = if allowed (fun c => place (fun e => val_main_v18 (F := Ideal) x0 x1 x2 (ix4 0 h i e)) c < 5) i j then 1#1 else 0#1 := by
  rw [val_main_v30_apply, spread, chosen, val_main_v29_apply, val_main_v28_apply,
    show idx_main_v28 (idx_main_v29 (ix4 0 h i j)) = ix2 i j from Shape.idx_ext₂ rfl rfl, diagonal]
  unfold allowed
  by_cases h1 : place (fun e => val_main_v18 (F := Ideal) x0 x1 x2 (ix4 0 h i e)) (chunkOf j) < 5
  · by_cases h2 : j ≤ i
    · rw [if_pos h1, if_pos h2, if_pos ⟨h1, h2⟩]; rfl
    · rw [if_pos h1, if_neg h2, if_neg fun e => h2 e.2]; rfl
  · by_cases h2 : j ≤ i
    · rw [if_neg h1, if_pos h2, if_neg fun e => h1 e.1]; rfl
    · rw [if_neg h1, if_neg h2, if_neg fun e => h1 e.1]; rfl

end Cert.ReferenceIdeal.Mask

end
-- ==== Proof.RefValue.lean ====
/- The reference's result, entry by entry. -/
module

public import proofs.«01_k».proof.Proof.RefMask
public import proofs.«01_k».proof.Proof.Spec

@[expose] public section

set_option maxRecDepth 16384

noncomputable section

namespace Cert.ReferenceIdeal.Val

open Idealize.ShloMosaic Idealize.ShloMosaic.ValueIdx Idealize.ShloMosaic.TcCoe Cert.ReferenceIdeal Cert.ReferenceIdeal.Gen Cert.ReferenceIdeal.Read
open Cert.ReferenceIdeal.Mask
open Cert.Spec
open scoped Classical

/-- The activations. -/
abbrev Acts := (⟨S1x2048x1024, .f32⟩ : BufTy).Contents (Elt Ideal)
/-- A weight matrix. -/
abbrev Weights := (⟨S1024x1024, .f32⟩ : BufTy).Contents (Elt Ideal)

/-- A projection of the activations: row times row of the weights. -/
def proj (x : Acts) (w : Weights) (i : Fin 2048) (e : Fin 1024) : EReal := ∑ k : Fin 1024, (x (ix3 0 i k) : EReal) * w (ix2 e k)

/-- The scaled score of a query and a key in one head. -/
def score (q k : Fin 2048 → Fin 1024 → EReal) (h : Fin 16) (i j : Fin 2048) : EReal :=
  (∑ d : Fin 64, q i (lane h d) * k j (lane h d)) * ((1 / 8 : ℝ) : EReal)

theorem c256 : Ideal.ofBits .f32 0x43800000#32 = ((256 : ℝ) : EReal) := by
  simp [Ideal.ofBits, Ideal.ieee, -EReal.coe_mul]; norm_num
theorem c8 : Ideal.ofBits .f32 0x3E000000#32 = ((1 / 8 : ℝ) : EReal) := by
  simp [Ideal.ofBits, Ideal.ieee, -EReal.coe_mul]; norm_num
theorem c2048 : Ideal.ofBits .f32 0x3A000000#32 = ((1 / 2048 : ℝ) : EReal) := by
  simp [Ideal.ofBits, Ideal.ieee, -EReal.coe_mul]; norm_num
theorem cbot : Ideal.ofBits .f32 0xFF800000#32 = (⊥ : EReal) := by
  simp [Ideal.ofBits, Ideal.ieee]

variable (x0 : Acts) (x1 x2 x3 x4 : Weights)

/-! ## Projections, heads, chunk means -/

theorem proj_apply (i : Fin 2048) (e : Fin 1024) : val_main_v1 (F := Ideal) x0 x1 (ix3 0 i e) = proj x0 x1 i e := by
  rw [val_main_v1_apply]
  refine Finset.sum_congr rfl fun k _ => ?_
  rw [val_main_v0_apply]
  exact congrArg₂ (fun (a b : EReal) => a * b) (congrArg x0 (ext3 rfl rfl rfl)) (congrArg x1 (Shape.idx_ext₂ rfl rfl))

theorem head_apply (h : Fin 16) (i : Fin 2048) (d : Fin 64) : val_main_v3 (F := Ideal) x0 x1 (ix4 0 h i d) = proj x0 x1 i (lane h d) := by
  have e : idx_main_v2 (idx_main_v3 (ix4 0 h i d)) = ix3 0 i (lane h d) := ext3 rfl
    (by show (((0 * 2048 + i.val) * 16 + h.val) * 64 + d.val) / 1024 % 2048 = i.val; omega)
    (by show (((0 * 2048 + i.val) * 16 + h.val) * 64 + d.val) % 1024 = 64 * h.val + d.val; omega)
  rw [val_main_v3_apply, val_main_v2_apply, e, proj_apply]

theorem keys_eq : val_main_v7 (F := Ideal) x0 x2 = val_main_v3 (F := Ideal) x0 x2 := rfl

theorem values_eq : val_main_v11 (F := Ideal) x0 x3 = val_main_v3 (F := Ideal) x0 x3 := rfl

theorem mean_apply (h : Fin 16) (c : Fin 8) (d : Fin 64) :
    val_main_v15 (F := Ideal) x0 x2 (ix4 0 h c d) = meanKey (proj x0 x2) h c d := by
  have e : ∀ r : Fin 256, idx_main_v12 (idx_main_v13 (ix4 0 h c d) r) = ix4 0 h (key c.val r) d := fun r => ext4 rfl
    (by show ((((0 * 16 + h.val) * 8 + c.val) * 256 + r.val) * 64 + d.val) / 131072 % 16 = h.val; omega)
    (by show ((((0 * 16 + h.val) * 8 + c.val) * 256 + r.val) * 64 + d.val) / 64 % 2048 = 256 * (c.val % 8) + r.val; omega)
    (by show ((((0 * 16 + h.val) * 8 + c.val) * 256 + r.val) * 64 + d.val) % 64 = d.val; omega)
  have e0 : (val_main_cst (F := Ideal)) (Shape.Idx.first h_S_) = (0 : EReal) := Ideal.ofBits_zero_f32
  have e1 : ∀ y, val_main_cst_0 (F := Ideal) y = ((256 : ℝ) : EReal) := fun _ => c256
  rw [val_main_v15_apply, val_main_v13_apply, val_main_v14_apply, e0, e1, Ideal.hostDivf_def, Ideal.div_coe (by norm_num), zero_add]
  unfold meanKey
  refine congrArg (fun a : EReal => a * ((1 / 256 : ℝ) : EReal)) (Finset.sum_congr rfl fun r _ => ?_)
  rw [val_main_v12_apply, e, keys_eq, head_apply]

theorem sim_apply (h : Fin 16) (i : Fin 2048) (c : Fin 8) :
    val_main_v18 (F := Ideal) x0 x1 x2 (ix4 0 h i c) = sim (proj x0 x1) (proj x0 x2) h i c := by
  rw [val_main_v18_apply, val_main_v16_apply, val_main_v17_apply]
  show _ * Ideal.ofBits .f32 0x3E000000#32 = _
  rw [c8]
  unfold sim
  refine congrArg (· * ((1 / 8 : ℝ) : EReal)) (Finset.sum_congr rfl fun d _ => ?_)
  rw [show lidx_main_v16 (ix4 0 h i c) d = ix4 0 h i d from ext4 rfl rfl rfl rfl,
    show ridx_main_v16 (ix4 0 h i c) d = ix4 0 h c d from ext4 rfl rfl rfl rfl, head_apply, mean_apply]

theorem score_apply (h : Fin 16) (i j : Fin 2048) :
    val_main_v33 (F := Ideal) x0 x1 x2 (ix4 0 h i j) = score (proj x0 x1) (proj x0 x2) h i j := by
  rw [val_main_v33_apply, val_main_v31_apply, val_main_v32_apply]
  show _ * Ideal.ofBits .f32 0x3E000000#32 = _
  rw [c8]
  unfold score
  refine congrArg (· * ((1 / 8 : ℝ) : EReal)) (Finset.sum_congr rfl fun d _ => ?_)
  rw [show lidx_main_v31 (ix4 0 h i j) d = ix4 0 h i d from ext4 rfl rfl rfl rfl,
    show ridx_main_v31 (ix4 0 h i j) d = ix4 0 h j d from ext4 rfl rfl rfl rfl, keys_eq, head_apply, head_apply]

/-! ## The softmax of the masked scores -/

theorem mask_apply (h : Fin 16) (i j : Fin 2048) :
    val_main_v30 (F := Ideal) x0 x1 x2 (ix4 0 h i j) = if allowed (selected (proj x0 x1) (proj x0 x2) h i) i j then 1#1 else 0#1 := by
  rw [Mask.mask]
  have e : (fun c => val_main_v18 (F := Ideal) x0 x1 x2 (ix4 0 h i c)) = sim (proj x0 x1) (proj x0 x2) h i :=
    funext fun c => sim_apply x0 x1 x2 h i c
  rw [e]
  rfl

theorem masked_apply (h : Fin 16) (i j : Fin 2048) : val_main_v34 (F := Ideal) x0 x1 x2 (ix4 0 h i j)
    = masked (score (proj x0 x1) (proj x0 x2) h i) (selected (proj x0 x1) (proj x0 x2) h i) i j := by
  rw [val_main_v34_apply, mask_apply, score_apply, val_main_call4_v1_apply]
  unfold masked
  split
  · exact select_one _ _
  · exact (select_zero _ _).trans cbot

theorem peak_apply (h : Fin 16) (i : Fin 2048) : val_main_v37 (F := Ideal) x0 x1 x2 (ix3 0 h i)
    = peak (score (proj x0 x1) (proj x0 x2) h i) (selected (proj x0 x1) (proj x0 x2) h i) i := by
  rw [val_main_v37_apply, val_main_v36_apply]
  show max (Ideal.ofBits .f32 0xFF800000#32) _ = _
  rw [cbot]
  refine (max_eq_right bot_le).trans ?_
  unfold val_main_v35
  refine (Host.reduce_eq_fold_single (FloatOps.maximumf (F := Ideal) (φ := .f32)) _ _ _ (by decide) _ _).trans ?_
  show (Finset.univ : Finset (Fin 2048)).fold max (Ideal.ofBits .f32 0xFF800000#32 : EReal) _ = (Finset.univ : Finset (Fin 2048)).fold max (⊥ : EReal) _
  rw [cbot]
  exact Finset.fold_congr fun j _ => Eq.trans (congrArg (val_main_v34 (F := Ideal) x0 x1 x2) (show _ = ix4 0 h i j from ext4 rfl rfl rfl rfl)) (masked_apply x0 x1 x2 h i j)

theorem expo_apply (h : Fin 16) (i j : Fin 2048) : val_main_v41 (F := Ideal) x0 x1 x2 (ix4 0 h i j)
    = expo (score (proj x0 x1) (proj x0 x2) h i) (selected (proj x0 x1) (proj x0 x2) h i) i j := by
  rw [val_main_v41_apply, val_main_v40_apply, masked_apply, val_main_v39_apply, val_main_v38_apply,
    show idx_main_v38 (idx_main_v39 (ix4 0 h i j)) = ix3 0 h i from ext3 rfl rfl rfl, peak_apply]
  rfl

theorem total_apply (h : Fin 16) (i : Fin 2048) : val_main_v42 (F := Ideal) x0 x1 x2 (ix3 0 h i)
    = ∑ j, expo (score (proj x0 x1) (proj x0 x2) h i) (selected (proj x0 x1) (proj x0 x2) h i) i j := by
  rw [val_main_v42_apply, show (val_main_cst_9 (F := Ideal)) (Shape.Idx.first h_S_) = (0 : EReal) from Ideal.ofBits_zero_f32, zero_add]
  refine Finset.sum_congr rfl fun j _ => ?_
  rw [show idx_main_v42 (ix3 0 h i) j = ix4 0 h i j from ext4 rfl rfl rfl rfl, expo_apply]

/-- The disjunction of bits. -/
theorem fold_or {n : ℕ} (s : Finset (Fin n)) (p : Fin n → Prop) :
    s.fold IntOp.ori 0#1 (fun j => if p j then 1#1 else 0#1) = if ∃ j ∈ s, p j then 1#1 else 0#1 := by
  induction s using Finset.induction_on with
  | empty => simp
  | insert a s ha ih =>
    rw [Finset.fold_insert ha, ih]
    simp only [Finset.exists_mem_insert]
    by_cases h1 : p a <;> by_cases h2 : ∃ j ∈ s, p j <;> simp only [h1, h2, if_true, if_false, true_or, or_true, or_self] <;> decide

theorem any_apply (h : Fin 16) (i : Fin 2048) : val_main_v46 (F := Ideal) x0 x1 x2 (ix3 0 h i)
    = if ∃ j, allowed (selected (proj x0 x1) (proj x0 x2) h i) i j then 1#1 else 0#1 := by
  unfold val_main_v46
  refine (Host.reduce_eq_fold_single IntOp.ori _ _ _ (by decide) _ _).trans ?_
  refine Eq.trans ?_ ((fold_or (Finset.univ : Finset (Fin 2048)) (fun j => allowed (selected (proj x0 x1) (proj x0 x2) h i) i j)).trans
    (if_congr (by simp) rfl rfl))
  exact Finset.fold_congr fun j _ =>
    Eq.trans (congrArg (val_main_v30 (F := Ideal) x0 x1 x2) (show _ = ix4 0 h i j from ext4 rfl rfl rfl rfl)) (mask_apply x0 x1 x2 h i j)

theorem share_apply (h : Fin 16) (i j : Fin 2048) : val_main_v48 (F := Ideal) x0 x1 x2 (ix4 0 h i j)
    = share (score (proj x0 x1) (proj x0 x2) h i) (selected (proj x0 x1) (proj x0 x2) h i) i j := by
  rw [val_main_v48_apply, val_main_call5_v0_apply, val_main_v47_apply,
    show idx_main_v47 (idx_main_call5_v0 (ix4 0 h i j)) = ix3 0 h i from ext3 rfl rfl rfl, any_apply, val_main_v45_apply, val_main_v44_apply,
    val_main_v43_apply, show idx_main_v43 (idx_main_v44 (ix4 0 h i j)) = ix3 0 h i from ext3 rfl rfl rfl, total_apply, expo_apply,
    val_main_call5_v1_apply]
  unfold share
  split
  · exact select_one _ _
  · exact (select_zero _ _).trans c2048

theorem att_apply (h : Fin 16) (i : Fin 2048) (d : Fin 64) : val_main_v49 (F := Ideal) x0 x1 x2 x3 (ix4 0 h i d)
    = att (score (proj x0 x1) (proj x0 x2) h i) (selected (proj x0 x1) (proj x0 x2) h i) (fun j => proj x0 x3 j (lane h d)) i := by
  rw [val_main_v49_apply]
  unfold att
  refine Finset.sum_congr rfl fun j _ => ?_
  rw [show lidx_main_v49 (ix4 0 h i d) j = ix4 0 h i j from ext4 rfl rfl rfl rfl,
    show ridx_main_v49 (ix4 0 h i d) j = ix4 0 h j d from ext4 rfl rfl rfl rfl, share_apply, values_eq, head_apply]

theorem joined_apply (i : Fin 2048) (e : Fin 1024) : val_main_v51 (F := Ideal) x0 x1 x2 x3 (ix3 0 i e)
    = att (score (proj x0 x1) (proj x0 x2) (headOf e) i) (selected (proj x0 x1) (proj x0 x2) (headOf e) i) (fun j => proj x0 x3 j e) i := by
  have he : lane (headOf e) ⟨e.val % 64, by omega⟩ = e := Fin.ext (by show 64 * (e.val / 64) + e.val % 64 = e.val; omega)
  have hi : idx_main_v50 (idx_main_v51 (ix3 0 i e)) = ix4 0 (headOf e) i ⟨e.val % 64, by omega⟩ := ext4 rfl
    (by show ((0 * 2048 + i.val) * 1024 + e.val) / 64 % 16 = e.val / 64; omega)
    (by show ((0 * 2048 + i.val) * 1024 + e.val) / 1024 % 2048 = i.val; omega)
    (by show ((0 * 2048 + i.val) * 1024 + e.val) % 64 = e.val % 64; omega)
  rw [val_main_v51_apply, val_main_v50_apply, hi, att_apply, he]

/-- The reference's result at a row and a column. -/
theorem result_apply (i : Fin 2048) (e : Fin 1024) : val_main_v53 (F := Ideal) x0 x1 x2 x3 x4 (ix3 0 i e)
    = ∑ f : Fin 1024, att (score (proj x0 x1) (proj x0 x2) (headOf f) i) (selected (proj x0 x1) (proj x0 x2) (headOf f) i)
        (fun j => proj x0 x3 j f) i * x4 (ix2 e f) := by
  rw [val_main_v53_apply]
  refine Finset.sum_congr rfl fun f _ => ?_
  rw [show lidx_main_v53 (ix3 0 i e) f = ix3 0 i f from ext3 rfl rfl rfl, joined_apply, val_main_v52_apply,
    show idx_main_v52 (ridx_main_v53 (ix3 0 i e) f) = ix2 e f from Shape.idx_ext₂ rfl rfl]

end Cert.ReferenceIdeal.Val

end
-- ==== Proof.KernelValue.lean ====
/- The kernel's result: what each array holds after each call and each host operation, from the arguments to the result. -/
module

public import proofs.«01_k».proof.Proof.Regions
public import proofs.«01_k».proof.Proof.Mm
public import proofs.«01_k».proof.Proof.RefValue
public import Idealize.ShloMosaic.Lib.StableHlo.Run

@[expose] public section

set_option maxRecDepth 16384

noncomputable section

namespace Cert.KernelIdeal.Total

open Idealize.ShloMosaic Idealize.ShloMosaic.ValueIdx Idealize.ShloMosaic.TcCoe Cert.KernelIdeal Cert.KernelIdeal.Gen
open Cert.Spec Cert.KernelIdeal.Mm
open Cert.ReferenceIdeal.Val (proj score)
open scoped Classical

variable (m : (ℓ : Loc nD τ sig) → Buf (Elt Ideal) ℓ) (ρ : Dev nD → PrngReg) (c : Dev nD)

/-! ## The arguments -/

abbrev xA : (⟨3, ![1, 2048, 1024]⟩ : Shape).Idx → EReal := m ((c : Thread nD τ).loc main_arg0)
abbrev wq : (⟨2, ![1024, 1024]⟩ : Shape).Idx → EReal := m ((c : Thread nD τ).loc main_arg1)
abbrev wk : (⟨2, ![1024, 1024]⟩ : Shape).Idx → EReal := m ((c : Thread nD τ).loc main_arg2)
abbrev wv : (⟨2, ![1024, 1024]⟩ : Shape).Idx → EReal := m ((c : Thread nD τ).loc main_arg3)
abbrev wo : (⟨2, ![1024, 1024]⟩ : Shape).Idx → EReal := m ((c : Thread nD τ).loc main_arg4)

/-! ## The activations as a matrix -/

/-- The matrix of the activations: the batch of one read at its row and column. -/
abbrev rows : (⟨2, ![2048, 1024]⟩ : Shape).Idx → EReal := W1 m ρ c (Proc.devRef .tc main_v0)

theorem rows_eq : rows m ρ c = shapeCast S2048x1024 (xA m c) shapeCasts_S1x2048x1024_S2048x1024 := by
  show StableHlo.after hostOps0 (W0 m ρ c) (Proc.devRef .tc main_v0) = _
  after_results
  rfl

theorem rows_apply (i : Fin 2048) (k : Fin 1024) : rows m ρ c (ix2 i k) = xA m c (ix3 0 i k) := by
  rw [rows_eq]
  refine shapeCast_apply _ _ _ _ ?_
  rewrite [Shape.rowMajor_val_three, Shape.rowMajor_val_two]
  show (0 * 2048 + i.val) * 1024 + k.val = i.val * 1024 + k.val
  omega

/-- The rows' products with a weight matrix are the projection. -/
theorem rowsProd_rows (w : (⟨2, ![1024, 1024]⟩ : Shape).Idx → EReal) (i : Fin 2048) (e : Fin 1024) :
    rowsProd (M := 2048) (N := 1024) (rows m ρ c) w (ix2 i e) = proj (xA m c) w i e :=
  Finset.sum_congr rfl fun k _ => congrArg (· * w (ix2 e k)) (rows_apply m ρ c i k)

/-! ## The projections -/

theorem rows2 : W2 m ρ c (Proc.devRef .tc main_v0) = rows m ρ c := W2_of m ρ c main_v0 (by decide +kernel)
theorem rows3 : W3 m ρ c (Proc.devRef .tc main_v0) = rows m ρ c := (W3_of m ρ c main_v0 (by decide +kernel)).trans (rows2 m ρ c)

theorem queries2 : W2 m ρ c (Proc.devRef .tc main_v1) = rowsProd (M := 2048) (N := 1024) (rows m ρ c) (wq m c) :=
  (W2_arr m ρ c 2).trans ((result0 (V1 m ρ) c).trans
    (congrArg (rowsProd (M := 2048) (N := 1024) (rows m ρ c)) (W1_args m ρ c main_arg1 (by decide))))

theorem keys3 : W3 m ρ c (Proc.devRef .tc main_v2) = rowsProd (M := 2048) (N := 1024) (rows m ρ c) (wk m c) :=
  (W3_arr m ρ c 2).trans ((result1 (V2 m ρ) c).trans
    (congrArg₂ (rowsProd (M := 2048) (N := 1024)) (rows2 m ρ c) (W2_args m ρ c main_arg2 (by decide))))

theorem values4 : W4 m ρ c (Proc.devRef .tc main_v3) = rowsProd (M := 2048) (N := 1024) (rows m ρ c) (wv m c) :=
  (W4_arr m ρ c 2).trans ((result2 (V3 m ρ) c).trans
    (congrArg₂ (rowsProd (M := 2048) (N := 1024)) (rows3 m ρ c) (W3_args m ρ c main_arg3 (by decide))))

theorem queries4 : W4 m ρ c (Proc.devRef .tc main_v1) = rowsProd (M := 2048) (N := 1024) (rows m ρ c) (wq m c) :=
  (W4_of m ρ c main_v1 (by decide +kernel)).trans ((W3_of m ρ c main_v1 (by decide +kernel)).trans (queries2 m ρ c))

theorem keys4 : W4 m ρ c (Proc.devRef .tc main_v2) = rowsProd (M := 2048) (N := 1024) (rows m ρ c) (wk m c) :=
  (W4_of m ρ c main_v2 (by decide +kernel)).trans (keys3 m ρ c)

theorem queries6 : Regions.qs (V6 m ρ) c = rowsProd (M := 2048) (N := 1024) (rows m ρ c) (wq m c) :=
  (W6_of m ρ c main_v1 (by decide)).trans ((W5_of m ρ c main_v1 (by decide +kernel)).trans (queries4 m ρ c))

theorem keys6 : Regions.ks (V6 m ρ) c = rowsProd (M := 2048) (N := 1024) (rows m ρ c) (wk m c) :=
  (W6_of m ρ c main_v2 (by decide)).trans ((W5_of m ρ c main_v2 (by decide +kernel)).trans (keys4 m ρ c))

theorem values6 : Regions.vs (V6 m ρ) c = rowsProd (M := 2048) (N := 1024) (rows m ρ c) (wv m c) :=
  (W6_of m ρ c main_v3 (by decide)).trans ((W5_of m ρ c main_v3 (by decide +kernel)).trans (values4 m ρ c))

/-! ## The bias -/

/-- The routing's result, row by row. -/
theorem bias5 : W5 m ρ c (Proc.devRef .tc main_v4) = Route.bias (F := Ideal) (rowsProd (M := 2048) (N := 1024) (rows m ρ c) (wq m c))
    (rowsProd (M := 2048) (N := 1024) (rows m ρ c) (wk m c)) :=
  (W5_arr m ρ c 2).trans ((Regions.result3 (V4 m ρ) c).trans (congrArg₂ (Route.bias (F := Ideal)) (queries4 m ρ c) (keys4 m ρ c)))

/-- The bias as the routing leaves it. -/
abbrev flat : (⟨2, ![2048, 128]⟩ : Shape).Idx → EReal := W5 m ρ c (Proc.devRef .tc main_v4)

theorem bias6 : Regions.bs (V6 m ρ) c = transpose S16x2048x8 [1, 0, 2]
    (shapeCast S2048x16x8 (flat m ρ c) shapeCasts_S2048x128_S2048x16x8) transposes_S2048x16x8_S16x2048x8_1_0_2 := by
  show StableHlo.after hostOps4 (W5 m ρ c) (Proc.devRef .tc main_v6) = _
  after_results
  rfl

/-- The bias the attention reads: zero at the selected chunks, minus infinity elsewhere. -/
theorem bias6_apply (h : Fin 16) (i : Fin 2048) (n : Fin 8) : Regions.bs (V6 m ρ) c (ix3 h i n)
    = if selected (proj (xA m c) (wq m c)) (proj (xA m c) (wk m c)) h i n then (0 : EReal) else ⊥ := by
  rw [bias6]
  refine (transpose_apply _ _ _ _ (ix3 i h n) (fun a => by match a with
    | ⟨0, _⟩ => rfl
    | ⟨1, _⟩ => rfl
    | ⟨2, _⟩ => rfl)).trans ?_
  refine (shapeCast_apply _ _ _ (ix2 i (Route.col h n)) ?_).trans ?_
  · rewrite [Shape.rowMajor_val_three, Shape.rowMajor_val_two]
    show i.val * 128 + (8 * h.val + n.val) = (i.val * 16 + h.val) * 8 + n.val
    omega
  · show flat m ρ c (ix2 i (Route.col h n)) = _
    rw [show flat m ρ c = _ from bias5 m ρ c]
    refine (Route.bias_apply _ _ i h n).trans ?_
    rw [show (fun i e => rowsProd (M := 2048) (N := 1024) (rows m ρ c) (wq m c) (ix2 i e)) = proj (xA m c) (wq m c) from
      funext fun i => funext fun e => rowsProd_rows m ρ c _ i e,
      show (fun i e => rowsProd (M := 2048) (N := 1024) (rows m ρ c) (wk m c) (ix2 i e)) = proj (xA m c) (wk m c) from
      funext fun i => funext fun e => rowsProd_rows m ρ c _ i e]

/-- The sum of reals is real. -/
theorem coe_sum {ι : Type} (s : Finset ι) (f : ι → ℝ) : ((∑ d ∈ s, f d : ℝ) : EReal) = ∑ d ∈ s, (f d : EReal) := by
  induction s using Finset.induction_on with
  | empty => simp
  | insert a s ha ih => rw [Finset.sum_insert ha, Finset.sum_insert ha, EReal.coe_add, ih]

/-! ## The attention and the result, the queries and keys real -/

variable (q k : Fin 2048 → Fin 1024 → ℝ) (hq : ∀ i e, proj (xA m c) (wq m c) i e = (q i e : EReal))
  (hk : ∀ i e, proj (xA m c) (wk m c) i e = (k i e : EReal))

/-- The real scores. -/
def scores (h : Fin 16) (i j : Fin 2048) : ℝ := (∑ d : Fin 64, q i (lane h d) * k j (lane h d)) * (1 / 8)

include hq hk

theorem scores_kernel (h : Fin 16) (i j : Fin 2048) :
    ∑ d : Fin 64, (Regions.qs (V6 m ρ) c (ix2 i (lane h d)) : EReal) * ((1 / 8 : ℝ) : EReal) * Regions.ks (V6 m ρ) c (ix2 j (lane h d))
      = (scores q k h i j : EReal) := by
  have e : ∀ d : Fin 64, (Regions.qs (V6 m ρ) c (ix2 i (lane h d)) : EReal) * ((1 / 8 : ℝ) : EReal) * Regions.ks (V6 m ρ) c (ix2 j (lane h d))
      = ((q i (lane h d) * k j (lane h d) * (1 / 8) : ℝ) : EReal) := fun d => by
    rw [queries6, keys6, rowsProd_rows, rowsProd_rows, hq, hk, ← EReal.coe_mul, ← EReal.coe_mul]
    exact congrArg _ (by ring)
  rw [Finset.sum_congr rfl fun d _ => e d, ← coe_sum, scores, Finset.sum_mul]

theorem scores_reference (h : Fin 16) (i j : Fin 2048) :
    score (proj (xA m c) (wq m c)) (proj (xA m c) (wk m c)) h i j = (scores q k h i j : EReal) := by
  unfold score scores
  simp only [hq, hk, ← EReal.coe_mul, ← coe_sum]

/-- What the attention leaves at a row and a column. -/
theorem heads_apply (i : Fin 2048) (f : Fin 1024) :
    Regions.heads (V6 m ρ) c (selected (proj (xA m c) (wq m c)) (proj (xA m c) (wk m c))) (scores q k) (ix2 i f)
    = att (score (proj (xA m c) (wq m c)) (proj (xA m c) (wk m c)) (headOf f) i)
        (selected (proj (xA m c) (wq m c)) (proj (xA m c) (wk m c)) (headOf f) i) (fun j => proj (xA m c) (wv m c) j f) i := by
  show att (fun j => (scores q k (headOf f) i j : EReal)) _ (fun j => Regions.vs (V6 m ρ) c (ix2 j f)) i = _
  rw [show (fun j => (scores q k (headOf f) i j : EReal)) = score (proj (xA m c) (wq m c)) (proj (xA m c) (wk m c)) (headOf f) i from
    funext fun j => (scores_reference m c q k hq hk (headOf f) i j).symm,
    show (fun j => Regions.vs (V6 m ρ) c (ix2 j f)) = fun j => proj (xA m c) (wv m c) j f from funext fun j => by
      rw [values6, rowsProd_rows]]

theorem heads7 : W7 m ρ c (Proc.devRef .tc main_v7)
    = Regions.heads (V6 m ρ) c (selected (proj (xA m c) (wq m c)) (proj (xA m c) (wk m c))) (scores q k) :=
  (W7_arr m ρ c 4).trans (Regions.result4 (V6 m ρ) c _ _ (scores_kernel m ρ c q k hq hk) (bias6_apply m ρ c))

theorem out8 : W8 m ρ c (Proc.devRef .tc main_v8) = rowsProd (M := 2048) (N := 1024)
    (Regions.heads (V6 m ρ) c (selected (proj (xA m c) (wq m c)) (proj (xA m c) (wk m c))) (scores q k)) (wo m c) :=
  (W8_arr m ρ c 2).trans ((result5 (V7 m ρ) c).trans
    (congrArg₂ (rowsProd (M := 2048) (N := 1024)) (heads7 m ρ c q k hq hk) (W7_args m ρ c main_arg4 (by decide))))

omit hq hk in
theorem out9 : W9 m ρ c (Proc.devRef .tc main_v9) = shapeCast S1x2048x1024
    (W8 m ρ c (Proc.devRef .tc main_v8) : (⟨2, ![2048, 1024]⟩ : Shape).Idx → EReal) shapeCasts_S2048x1024_S1x2048x1024 := by
  show StableHlo.after hostOps6 (W8 m ρ c) (Proc.devRef .tc main_v9) = _
  after_results
  rfl

/-- The kernel's result is the reference's. -/
theorem result : W9 m ρ c (Proc.devRef .tc main_v9)
    = Cert.ReferenceIdeal.Read.val_main_v53 (F := Ideal) (xA m c) (wq m c) (wk m c) (wv m c) (wo m c) := by
  rw [out9]
  funext y
  obtain ⟨i, e, rfl⟩ : ∃ (i : Fin 2048) (e : Fin 1024), y = ix3 0 i e :=
    ⟨y 1, y 2, Cert.ReferenceIdeal.Mask.ext3 (by have := (y 0).isLt; show (y 0).val = 0; change (y 0).val < 1 at this; omega) rfl rfl⟩
  refine (shapeCast_apply _ _ _ (ix2 i e) ?_).trans ?_
  · rewrite [Shape.rowMajor_val_three, Shape.rowMajor_val_two]
    show i.val * 1024 + e.val = (0 * 2048 + i.val) * 1024 + e.val
    omega
  · rw [out8 m ρ c q k hq hk]
    refine Eq.trans ?_ (Cert.ReferenceIdeal.Val.result_apply (xA m c) (wq m c) (wk m c) (wv m c) (wo m c) i e).symm
    exact Finset.sum_congr (f := fun f : Fin 1024 => (Regions.heads (V6 m ρ) c _ (scores q k) (ix2 i f) : EReal) * wo m c (ix2 e f)) rfl
      fun f _ => congrArg (· * wo m c (ix2 e f)) (heads_apply m ρ c q k hq hk i f)

end Cert.KernelIdeal.Total

end
-- ==== Proof.Finite.lean ====
/- What the precondition gives: the activations, the query weights and the key weights are real, and so are their products. -/
module

public import proofs.«01_k».proof.Proof.KernelValue
public import proofs.«01_k».proof.Proof.Gen.Pre_finite
public import proofs.«01_k».proof.Defs

@[expose] public section

noncomputable section

namespace Cert.KernelIdeal.Total

open Idealize.ShloMosaic Idealize.ShloMosaic.ValueIdx Idealize.ShloMosaic.TcCoe Cert.KernelIdeal
open Cert.ReferenceIdeal.Val (proj)

theorem top : Ideal.ofBits .f32 0x7F800000#32 = (⊤ : EReal) := by simp [Ideal.ofBits, Ideal.ieee]

/-- A value the precondition's comparison accepts is real. -/
theorem real_of_lt {x : Ideal .f32} (h : FloatOps.cmpf (F := Ideal) .olt (FloatOps.hostAbsf x) (FloatOps.ofBits .f32 0x7F800000#32) = 1#1) :
    ∃ r : ℝ, (x : EReal) = r := by
  rw [Ideal.cmpf_def, Ideal.hostAbsf_def, Ideal.absf_def, show (FloatOps.ofBits .f32 0x7F800000#32 : Ideal .f32) = (⊤ : EReal) from top] at h
  have hlt : max (x : EReal) (-x) < ⊤ := by
    by_contra hn
    simp [Ideal.cmp, hn] at h
  have h1 : (x : EReal) < ⊤ := lt_of_le_of_lt (le_max_left _ _) hlt
  have h2 : -(x : EReal) < ⊤ := lt_of_le_of_lt (le_max_right _ _) hlt
  refine ⟨EReal.toReal x, (EReal.coe_toReal h1.ne fun hb => ?_).symm⟩
  rw [hb] at h2
  exact absurd h2 (by simp)

variable (m : (ℓ : Loc nD τ sig) → Buf (Elt Ideal) ℓ) (c : Dev nD)

/-- A projection of real activations by real weights is real. -/
theorem proj_real (x : (⟨3, ![1, 2048, 1024]⟩ : Shape).Idx → EReal) (w : (⟨2, ![1024, 1024]⟩ : Shape).Idx → EReal)
    (hx : ∀ i, ∃ r : ℝ, x i = r) (hw : ∀ i, ∃ r : ℝ, w i = r) : ∃ q : Fin 2048 → Fin 1024 → ℝ, ∀ i e, proj x w i e = (q i e : EReal) := by
  choose a ha using hx
  choose b hb using hw
  refine ⟨fun i e => ∑ k : Fin 1024, a (ix3 0 i k) * b (ix2 e k), fun i e => ?_⟩
  rw [coe_sum]
  exact Finset.sum_congr rfl fun k _ => by rw [ha, hb, EReal.coe_mul]

theorem args_real (h : Pre_KernelIdeal_finite m) : (∀ i, ∃ r : ℝ, xA m c i = r) ∧ (∀ i, ∃ r : ℝ, wq m c i = r) ∧ ∀ i, ∃ r : ℝ, wk m c i = r :=
  ⟨fun i => real_of_lt (congrFun (h c).1 i), fun i => real_of_lt (congrFun (h c).2.1 i), fun i => real_of_lt (congrFun (h c).2.2 i)⟩

end Cert.KernelIdeal.Total

end
-- ==== Proof.lean ====
/- The proof of the certificate's claim. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_finite
public import proofs.«01_k».proof.Proof.Run
public import proofs.«01_k».proof.Proof.Finite
public import Idealize.ShloMosaic.Adequacy
public import Idealize.ShloMosaic.Init

@[expose] public section

noncomputable section

namespace Cert.Proof

open Idealize.ShloMosaic Idealize.SL.Sem Cert.KernelIdeal.Total

/-- Every execution of the reference ends with its arguments as launched and every counter at zero. -/
theorem reference_frame : Cert.quiescent_ReferenceIdeal := fun m ρ _ =>
  (θ_run _ _ _).mono
  (fun r h => ⟨fun c => (h c).2, Idealize.ShloMosaic.sem_eq_zero_of_no_sems (by decide) r.2⟩)
  (Cert.ReferenceIdeal.Value.run m ρ)

/-- From equal arguments the two programs end with equal results: the kernel's result array is the reference's function
    of the arguments. -/
theorem equal_results : Cert.algebraic_KernelIdeal_ReferenceIdeal_pre_finite := fun m ρ m' ρ' hpre hargs =>
  ⟨fun c => Cert.KernelIdeal.Gen.W9 m ρ c (Proc.devRef .tc Cert.KernelIdeal.main_v9), Cert.KernelIdeal.Value.run m ρ,
    (θ_run _ _ _).mono (fun r h c => ⟨(h c).1.trans (by
      obtain ⟨hx, hwq, hwk⟩ := args_real m c hpre
      obtain ⟨q, hq⟩ := proj_real (xA m c) (wq m c) hx hwq
      obtain ⟨k, hk⟩ := proj_real (xA m c) (wk m c) hx hwk
      obtain ⟨e0, e1, e2, e3, e4⟩ := hargs c
      refine ((Cert.ReferenceIdeal.Read.val_main_v53_eq m' c).trans ?_).trans (result m ρ c q k hq hk).symm
      rw [e0, e1, e2, e3, e4]), (h c).2⟩)
    (Cert.ReferenceIdeal.Value.run m' ρ')⟩

theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  IdealRules.named_const.statement Cert.KernelIdeal.κ "mask" .f32 0xCE6E6B28#32 ⊥ rfl, equal_results⟩

end Cert.Proof

end
